-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512x4x4 : Shape := ⟨4, ![4096, 512, 4, 4]⟩
abbrev S1000x512 : Shape := ⟨2, ![1000, 512]⟩
abbrev S1000 : Shape := ⟨1, ![1000]⟩
abbrev S_ : Shape := ⟨0, ![]⟩
abbrev S4096x512 : Shape := ⟨2, ![4096, 512]⟩
abbrev S1000x4096 : Shape := ⟨2, ![1000, 4096]⟩
abbrev S1000x1 : Shape := ⟨2, ![1000, 1]⟩
abbrev S4096 : Shape := ⟨1, ![4096]⟩
abbrev S1x4096 : Shape := ⟨2, ![1, 4096]⟩
abbrev S4096x1 : Shape := ⟨2, ![4096, 1]⟩
abbrev S256x1 : Shape := ⟨2, ![256, 1]⟩
abbrev S256x4096 : Shape := ⟨2, ![256, 4096]⟩
abbrev S256 : Shape := ⟨1, ![256]⟩
abbrev S4096x2x2x128x4x4 : Shape := ⟨6, ![4096, 2, 2, 128, 4, 4]⟩
abbrev S4096x4x2x2x4x128 : Shape := ⟨6, ![4096, 4, 2, 2, 4, 128]⟩
abbrev S4096x4x16x128 : Shape := ⟨4, ![4096, 4, 16, 128]⟩
abbrev S256x4x16x128 : Shape := ⟨4, ![256, 4, 16, 128]⟩
abbrev S1x4x16x128 : Shape := ⟨4, ![1, 4, 16, 128]⟩
abbrev S1x1 : Shape := ⟨2, ![1, 1]⟩
abbrev S16x4x16x128 : Shape := ⟨4, ![16, 4, 16, 128]⟩

abbrev nBuf : Space → Nat
  | .hbm => 38
  | .vmem => 9
  | .smem => 2
  | _ => 0

abbrev bufTy : (tb : Table) → Fin (tcTables nBuf tb) → BufTy
  | .hbm, ⟨0, _⟩ => ⟨S4096x512x4x4, .f32⟩
  | .hbm, ⟨1, _⟩ => ⟨S1000x512, .f32⟩
  | .hbm, ⟨2, _⟩ => ⟨S1000, .f32⟩
  | .hbm, ⟨3, _⟩ => ⟨S_, .f32⟩
  | .hbm, ⟨4, _⟩ => ⟨S4096x512, .f32⟩
  | .hbm, ⟨5, _⟩ => ⟨S_, .f32⟩
  | .hbm, ⟨6, _⟩ => ⟨S4096x512, .f32⟩
  | .hbm, ⟨7, _⟩ => ⟨S4096x512, .f32⟩
  | .hbm, ⟨8, _⟩ => ⟨S1000x4096, .f32⟩
  | .hbm, ⟨9, _⟩ => ⟨S1000x1, .f32⟩
  | .hbm, ⟨10, _⟩ => ⟨S1000x4096, .f32⟩
  | .hbm, ⟨11, _⟩ => ⟨S1000x4096, .f32⟩
  | .hbm, ⟨12, _⟩ => ⟨S_, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S1x4096, .f32⟩
  | .hbm, ⟨18, _⟩ => ⟨S1000x4096, .f32⟩
  | .hbm, ⟨19, _⟩ => ⟨S1000x4096, .f32⟩
  | .hbm, ⟨20, _⟩ => ⟨S1000x4096, .f32⟩
  | .hbm, ⟨21, _⟩ => ⟨S_, .f32⟩
  | .hbm, ⟨22, _⟩ => ⟨S4096, .f32⟩
  | .hbm, ⟨23, _⟩ => ⟨S1x4096, .f32⟩
  | .hbm, ⟨24, _⟩ => ⟨S1000x4096, .f32⟩
  | .hbm, ⟨25, _⟩ => ⟨S1000x4096, .f32⟩
  | .hbm, ⟨26, _⟩ => ⟨S1x4096, .f32⟩
  | .hbm, ⟨27, _⟩ => ⟨S4096, .f32⟩
  | .hbm, ⟨28, _⟩ => ⟨S1x4096, .f32⟩
  | .hbm, ⟨29, _⟩ => ⟨S4096x1, .f32⟩
  | .hbm, ⟨30, _⟩ => ⟨S4096x1, .i32⟩
  | .hbm, ⟨31, _⟩ => ⟨S4096x2x2x128x4x4, .f32⟩
  | .hbm, ⟨32, _⟩ => ⟨S4096x4x2x2x4x128, .f32⟩
  | .hbm, ⟨33, _⟩ => ⟨S4096x4x16x128, .f32⟩
  | .hbm, ⟨34, _⟩ => ⟨S4096x4x16x128, .f32⟩
  | .hbm, ⟨35, _⟩ => ⟨S4096x4x2x2x4x128, .f32⟩
  | .hbm, ⟨36, _⟩ => ⟨S4096x2x2x128x4x4, .f32⟩
  | .hbm, ⟨37, _⟩ => ⟨S4096x512x4x4, .f32⟩
  | .local _ .vmem, ⟨0, _⟩ => ⟨S1x4096, .f32⟩
  | .local _ .vmem, ⟨1, _⟩ => ⟨S256x1, .f32⟩
  | .local _ .vmem, ⟨2, _⟩ => ⟨S256x1, .f32⟩
  | .local _ .vmem, ⟨3, _⟩ => ⟨S256x1, .i32⟩
  | .local _ .vmem, ⟨4, _⟩ => ⟨S256x1, .i32⟩
  | .local _ .vmem, ⟨5, _⟩ => ⟨S256x4x16x128, .f32⟩
  | .local _ .vmem, ⟨6, _⟩ => ⟨S256x4x16x128, .f32⟩
  | .local _ .vmem, ⟨7, _⟩ => ⟨S256x4x16x128, .f32⟩
  | .local _ .vmem, ⟨8, _⟩ => ⟨S256x4x16x128, .f32⟩
  | .local _ .smem, ⟨0, _⟩ => ⟨S256x1, .i32⟩
  | .local _ .smem, ⟨1, _⟩ => ⟨S256x1, .i32⟩
  | _, _ => ⟨S4096x512x4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg0_0 : Ref sig .tc := ⟨.smem, 0, rfl⟩
abbrev cc1_stg0_1 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

@[reducible] def k1_t1_loop : Scf.Loop 32 :=
  let c0_i32 : BitVec 32 := 0#32
  let c16_i32 : BitVec 32 := 16#32
  let v23 : BitVec 32 := Scalar.addi c0_i32 c16_i32
  let c1_i32_2 : BitVec 32 := 1#32
  ⟨c0_i32, v23, c1_i32_2⟩
def k1_off1 (k1_t1 : Fin k1_t1_loop.trips) (c0_i32_5 : BitVec 32) : Fin 2 → Nat :=
  let c16_i32_4 : BitVec 32 := 16#32
  let c0_i32 : BitVec 32 := 0#32
  let c1_i32_2 : BitVec 32 := 1#32
  let arg4 : BitVec 32 := Scf.iv c0_i32 c1_i32_2 k1_t1
  let v24 : BitVec 32 := Scalar.muli c16_i32_4 arg4
  let v25 : BitVec 32 := Scalar.addi v24 c0_i32_5
  let v26 : Index := Scalar.indexCast v25
  let c0 : Index := 0#32
  ![v26.toNat, 0]
def k1_off2 (k1_t1 : Fin k1_t1_loop.trips) : Fin 4 → Nat :=
  let c16_i32_115 : BitVec 32 := 16#32
  let c0_i32 : BitVec 32 := 0#32
  let c1_i32_2 : BitVec 32 := 1#32
  let arg4 : BitVec 32 := Scf.iv c0_i32 c1_i32_2 k1_t1
  let v315 : BitVec 32 := Scalar.muli c16_i32_115 arg4
  let v316 : Index := Scalar.indexCast v315
  let c0_116 : Index := 0#32
  let c0_117 : Index := 0#32
  let c0_118 : Index := 0#32
  ![v316.toNat, 0, 0, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .smem S256x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4x16x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x4x16x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S4096x512x4x4 : Shape := ⟨4, ![4096, 512, 4, 4]⟩
abbrev S1000x512 : Shape := ⟨2, ![1000, 512]⟩
abbrev S1000 : Shape := ⟨1, ![1000]⟩
abbrev S_ : Shape := ⟨0, ![]⟩
abbrev S4096x512 : Shape := ⟨2, ![4096, 512]⟩
abbrev S512x1000 : Shape := ⟨2, ![512, 1000]⟩
abbrev S4096x1000 : Shape := ⟨2, ![4096, 1000]⟩
abbrev S1x1000 : Shape := ⟨2, ![1, 1000]⟩
abbrev S4096 : Shape := ⟨1, ![4096]⟩
abbrev S4096x1 : Shape := ⟨2, ![4096, 1]⟩
abbrev S1 : Shape := ⟨1, ![1]⟩
abbrev S2 : Shape := ⟨1, ![2]⟩
abbrev S1x1x1x1 : Shape := ⟨4, ![1, 1, 1, 1]⟩

abbrev nBuf : Space → Nat
  | .hbm => 344
  | .vmem => 0
  | .smem => 0
  | _ => 0

abbrev hbmTy0_0 (i : Nat) : BufTy := match i % 128 with
  | 0 => ⟨S4096x512x4x4, .f32⟩
  | 1 => ⟨S1000x512, .f32⟩
  | 2 => ⟨S1000, .f32⟩
  | 3 => ⟨S_, .f32⟩
  | 4 => ⟨S4096x512, .f32⟩
  | 5 => ⟨S_, .f32⟩
  | 6 => ⟨S4096x512, .f32⟩
  | 7 => ⟨S4096x512, .f32⟩
  | 8 => ⟨S512x1000, .f32⟩
  | 9 => ⟨S4096x1000, .f32⟩
  | 10 => ⟨S1x1000, .f32⟩
  | 11 => ⟨S4096x1000, .f32⟩
  | 12 => ⟨S4096x1000, .f32⟩
  | 13 => ⟨S_, .f32⟩
  | 14 => ⟨S4096, .f32⟩
  | 15 => ⟨S_, .f32⟩
  | 16 => ⟨S4096, .f32⟩
  | 17 => ⟨S4096, .f32⟩
  | 18 => ⟨S4096x1, .f32⟩
  | 19 => ⟨S4096x1000, .f32⟩
  | 20 => ⟨S4096x1000, .f32⟩
  | 21 => ⟨S4096x1000, .f32⟩
  | 22 => ⟨S_, .f32⟩
  | 23 => ⟨S4096, .f32⟩
  | 24 => ⟨S4096x1, .f32⟩
  | 25 => ⟨S4096x1000, .f32⟩
  | 26 => ⟨S4096x1000, .f32⟩
  | 27 => ⟨S4096x1000, .f32⟩
  | 28 => ⟨S4096x1000, .i32⟩
  | 29 => ⟨S4096x1000, .f32⟩
  | 30 => ⟨S4096x1000, .i32⟩
  | 31 => ⟨S4096x1, .i32⟩
  | 32 => ⟨S4096, .i32⟩
  | 33 => ⟨S_, .i32⟩
  | 34 => ⟨S4096, .i32⟩
  | 35 => ⟨S4096, .i1⟩
  | 36 => ⟨S_, .i32⟩
  | 37 => ⟨S4096, .i32⟩
  | 38 => ⟨S4096, .i32⟩
  | 39 => ⟨S4096, .i32⟩
  | 40 => ⟨S4096x1, .i32⟩
  | 41 => ⟨S4096x512x4x4, .f32⟩
  | 42 => ⟨S_, .i32⟩
  | 43 => ⟨S_, .i32⟩
  | 44 => ⟨S_, .i32⟩
  | 45 => ⟨S_, .i32⟩
  | 46 => ⟨S1, .i32⟩
  | 47 => ⟨S_, .i32⟩
  | 48 => ⟨S_, .i32⟩
  | 49 => ⟨S_, .i32⟩
  | 50 => ⟨S1, .i32⟩
  | 51 => ⟨S2, .i32⟩
  | 52 => ⟨S_, .f32⟩
  | 53 => ⟨S_, .f32⟩
  | 54 => ⟨S_, .f32⟩
  | 55 => ⟨S_, .f32⟩
  | 56 => ⟨S_, .f32⟩
  | 57 => ⟨S1x1x1x1, .f32⟩
  | 58 => ⟨S1x1x1x1, .f32⟩
  | 59 => ⟨S1, .i32⟩
  | 60 => ⟨S_, .i32⟩
  | 61 => ⟨S1, .i32⟩
  | 62 => ⟨S_, .i32⟩
  | 63 => ⟨S4096x512x4x4, .i64⟩
  | 64 => ⟨S4096x512x4x4, .i64⟩
  | 65 => ⟨S4096x512x4x4, .i64⟩
  | 66 => ⟨S4096x512x4x4, .i64⟩
  | 67 => ⟨S_, .i64⟩
  | 68 => ⟨S4096x512x4x4, .i64⟩
  | 69 => ⟨S4096x512x4x4, .i64⟩
  | 70 => ⟨S_, .i64⟩
  | 71 => ⟨S4096x512x4x4, .i64⟩
  | 72 => ⟨S4096x512x4x4, .i64⟩
  | 73 => ⟨S_, .i64⟩
  | 74 => ⟨S4096x512x4x4, .i64⟩
  | 75 => ⟨S4096x512x4x4, .i64⟩
  | 76 => ⟨S_, .i64⟩
  | 77 => ⟨S4096x512x4x4, .i64⟩
  | 78 => ⟨S4096x512x4x4, .i64⟩
  | 79 => ⟨S4096x512x4x4, .i64⟩
  | 80 => ⟨S4096x512x4x4, .i64⟩
  | 81 => ⟨S4096x512x4x4, .i64⟩
  | 82 => ⟨S_, .i64⟩
  | 83 => ⟨S4096x512x4x4, .i64⟩
  | 84 => ⟨S4096x512x4x4, .i64⟩
  | 85 => ⟨S4096x512x4x4, .i32⟩
  | 86 => ⟨S4096x512x4x4, .i32⟩
  | 87 => ⟨S_, .i32⟩
  | 88 => ⟨S_, .i32⟩
  | 89 => ⟨S_, .i32⟩
  | 90 => ⟨S4096x512x4x4, .i32⟩
  | 91 => ⟨S4096x512x4x4, .i32⟩
  | 92 => ⟨S4096x512x4x4, .i32⟩
  | 93 => ⟨S4096x512x4x4, .i32⟩
  | 94 => ⟨S4096x512x4x4, .i32⟩
  | 95 => ⟨S_, .i32⟩
  | 96 => ⟨S4096x512x4x4, .i32⟩
  | 97 => ⟨S4096x512x4x4, .i32⟩
  | 98 => ⟨S_, .i32⟩
  | 99 => ⟨S4096x512x4x4, .i32⟩
  | 100 => ⟨S4096x512x4x4, .i32⟩
  | 101 => ⟨S4096x512x4x4, .i32⟩
  | 102 => ⟨S4096x512x4x4, .i32⟩
  | 103 => ⟨S4096x512x4x4, .i32⟩
  | 104 => ⟨S_, .i32⟩
  | 105 => ⟨S4096x512x4x4, .i32⟩
  | 106 => ⟨S4096x512x4x4, .i32⟩
  | 107 => ⟨S_, .i32⟩
  | 108 => ⟨S4096x512x4x4, .i32⟩
  | 109 => ⟨S4096x512x4x4, .i32⟩
  | 110 => ⟨S4096x512x4x4, .i32⟩
  | 111 => ⟨S4096x512x4x4, .i32⟩
  | 112 => ⟨S4096x512x4x4, .i32⟩
  | 113 => ⟨S_, .i32⟩
  | 114 => ⟨S4096x512x4x4, .i32⟩
  | 115 => ⟨S4096x512x4x4, .i32⟩
  | 116 => ⟨S_, .i32⟩
  | 117 => ⟨S4096x512x4x4, .i32⟩
  | 118 => ⟨S4096x512x4x4, .i32⟩
  | 119 => ⟨S4096x512x4x4, .i32⟩
  | 120 => ⟨S4096x512x4x4, .i32⟩
  | 121 => ⟨S4096x512x4x4, .i32⟩
  | 122 => ⟨S_, .i32⟩
  | 123 => ⟨S4096x512x4x4, .i32⟩
  | 124 => ⟨S4096x512x4x4, .i32⟩
  | 125 => ⟨S_, .i32⟩
  | 126 => ⟨S4096x512x4x4, .i32⟩
  | 127 => ⟨S4096x512x4x4, .i32⟩
  | _ => ⟨S4096x512x4x4, .f32⟩

abbrev hbmTy0_1 (i : Nat) : BufTy := match i % 128 with
  | 0 => ⟨S4096x512x4x4, .i32⟩
  | 1 => ⟨S4096x512x4x4, .i32⟩
  | 2 => ⟨S4096x512x4x4, .i32⟩
  | 3 => ⟨S4096x512x4x4, .i32⟩
  | 4 => ⟨S4096x512x4x4, .i32⟩
  | 5 => ⟨S4096x512x4x4, .i32⟩
  | 6 => ⟨S_, .i32⟩
  | 7 => ⟨S4096x512x4x4, .i32⟩
  | 8 => ⟨S4096x512x4x4, .i32⟩
  | 9 => ⟨S4096x512x4x4, .i32⟩
  | 10 => ⟨S_, .i32⟩
  | 11 => ⟨S4096x512x4x4, .i32⟩
  | 12 => ⟨S4096x512x4x4, .i32⟩
  | 13 => ⟨S_, .i32⟩
  | 14 => ⟨S4096x512x4x4, .i32⟩
  | 15 => ⟨S4096x512x4x4, .i32⟩
  | 16 => ⟨S4096x512x4x4, .i32⟩
  | 17 => ⟨S4096x512x4x4, .i32⟩
  | 18 => ⟨S4096x512x4x4, .i32⟩
  | 19 => ⟨S_, .i32⟩
  | 20 => ⟨S4096x512x4x4, .i32⟩
  | 21 => ⟨S4096x512x4x4, .i32⟩
  | 22 => ⟨S_, .i32⟩
  | 23 => ⟨S4096x512x4x4, .i32⟩
  | 24 => ⟨S4096x512x4x4, .i32⟩
  | 25 => ⟨S4096x512x4x4, .i32⟩
  | 26 => ⟨S4096x512x4x4, .i32⟩
  | 27 => ⟨S4096x512x4x4, .i32⟩
  | 28 => ⟨S_, .i32⟩
  | 29 => ⟨S4096x512x4x4, .i32⟩
  | 30 => ⟨S4096x512x4x4, .i32⟩
  | 31 => ⟨S_, .i32⟩
  | 32 => ⟨S4096x512x4x4, .i32⟩
  | 33 => ⟨S4096x512x4x4, .i32⟩
  | 34 => ⟨S4096x512x4x4, .i32⟩
  | 35 => ⟨S4096x512x4x4, .i32⟩
  | 36 => ⟨S4096x512x4x4, .i32⟩
  | 37 => ⟨S_, .i32⟩
  | 38 => ⟨S4096x512x4x4, .i32⟩
  | 39 => ⟨S4096x512x4x4, .i32⟩
  | 40 => ⟨S_, .i32⟩
  | 41 => ⟨S4096x512x4x4, .i32⟩
  | 42 => ⟨S4096x512x4x4, .i32⟩
  | 43 => ⟨S4096x512x4x4, .i32⟩
  | 44 => ⟨S4096x512x4x4, .i32⟩
  | 45 => ⟨S4096x512x4x4, .i32⟩
  | 46 => ⟨S4096x512x4x4, .i32⟩
  | 47 => ⟨S4096x512x4x4, .i32⟩
  | 48 => ⟨S4096x512x4x4, .i32⟩
  | 49 => ⟨S_, .i32⟩
  | 50 => ⟨S4096x512x4x4, .i32⟩
  | 51 => ⟨S4096x512x4x4, .i32⟩
  | 52 => ⟨S4096x512x4x4, .i32⟩
  | 53 => ⟨S_, .i32⟩
  | 54 => ⟨S4096x512x4x4, .i32⟩
  | 55 => ⟨S4096x512x4x4, .i32⟩
  | 56 => ⟨S_, .i32⟩
  | 57 => ⟨S4096x512x4x4, .i32⟩
  | 58 => ⟨S4096x512x4x4, .i32⟩
  | 59 => ⟨S4096x512x4x4, .i32⟩
  | 60 => ⟨S4096x512x4x4, .i32⟩
  | 61 => ⟨S4096x512x4x4, .i32⟩
  | 62 => ⟨S_, .i32⟩
  | 63 => ⟨S4096x512x4x4, .i32⟩
  | 64 => ⟨S4096x512x4x4, .i32⟩
  | 65 => ⟨S_, .i32⟩
  | 66 => ⟨S4096x512x4x4, .i32⟩
  | 67 => ⟨S4096x512x4x4, .i32⟩
  | 68 => ⟨S4096x512x4x4, .i32⟩
  | 69 => ⟨S4096x512x4x4, .i32⟩
  | 70 => ⟨S4096x512x4x4, .i32⟩
  | 71 => ⟨S_, .i32⟩
  | 72 => ⟨S4096x512x4x4, .i32⟩
  | 73 => ⟨S4096x512x4x4, .i32⟩
  | 74 => ⟨S_, .i32⟩
  | 75 => ⟨S4096x512x4x4, .i32⟩
  | 76 => ⟨S4096x512x4x4, .i32⟩
  | 77 => ⟨S4096x512x4x4, .i32⟩
  | 78 => ⟨S4096x512x4x4, .i32⟩
  | 79 => ⟨S4096x512x4x4, .i32⟩
  | 80 => ⟨S_, .i32⟩
  | 81 => ⟨S4096x512x4x4, .i32⟩
  | 82 => ⟨S4096x512x4x4, .i32⟩
  | 83 => ⟨S_, .i32⟩
  | 84 => ⟨S4096x512x4x4, .i32⟩
  | 85 => ⟨S4096x512x4x4, .i32⟩
  | 86 => ⟨S4096x512x4x4, .i32⟩
  | 87 => ⟨S4096x512x4x4, .i32⟩
  | 88 => ⟨S4096x512x4x4, .i32⟩
  | 89 => ⟨S4096x512x4x4, .i32⟩
  | 90 => ⟨S4096x512x4x4, .i32⟩
  | 91 => ⟨S4096x512x4x4, .i32⟩
  | 92 => ⟨S_, .i32⟩
  | 93 => ⟨S4096x512x4x4, .i32⟩
  | 94 => ⟨S4096x512x4x4, .i32⟩
  | 95 => ⟨S4096x512x4x4, .i32⟩
  | 96 => ⟨S_, .i32⟩
  | 97 => ⟨S4096x512x4x4, .i32⟩
  | 98 => ⟨S4096x512x4x4, .i32⟩
  | 99 => ⟨S_, .i32⟩
  | 100 => ⟨S4096x512x4x4, .i32⟩
  | 101 => ⟨S4096x512x4x4, .i32⟩
  | 102 => ⟨S4096x512x4x4, .i32⟩
  | 103 => ⟨S4096x512x4x4, .i32⟩
  | 104 => ⟨S4096x512x4x4, .i32⟩
  | 105 => ⟨S_, .i32⟩
  | 106 => ⟨S4096x512x4x4, .i32⟩
  | 107 => ⟨S4096x512x4x4, .i32⟩
  | 108 => ⟨S_, .i32⟩
  | 109 => ⟨S4096x512x4x4, .i32⟩
  | 110 => ⟨S4096x512x4x4, .i32⟩
  | 111 => ⟨S4096x512x4x4, .i32⟩
  | 112 => ⟨S4096x512x4x4, .i32⟩
  | 113 => ⟨S4096x512x4x4, .i32⟩
  | 114 => ⟨S_, .i32⟩
  | 115 => ⟨S4096x512x4x4, .i32⟩
  | 116 => ⟨S4096x512x4x4, .i32⟩
  | 117 => ⟨S_, .i32⟩
  | 118 => ⟨S4096x512x4x4, .i32⟩
  | 119 => ⟨S4096x512x4x4, .i32⟩
  | 120 => ⟨S4096x512x4x4, .i32⟩
  | 121 => ⟨S4096x512x4x4, .i32⟩
  | 122 => ⟨S4096x512x4x4, .i32⟩
  | 123 => ⟨S_, .i32⟩
  | 124 => ⟨S4096x512x4x4, .i32⟩
  | 125 => ⟨S4096x512x4x4, .i32⟩
  | 126 => ⟨S_, .i32⟩
  | 127 => ⟨S4096x512x4x4, .i32⟩
  | _ => ⟨S4096x512x4x4, .f32⟩

abbrev hbmTy0_2 (i : Nat) : BufTy := match i % 128 with
  | 0 => ⟨S4096x512x4x4, .i32⟩
  | 1 => ⟨S4096x512x4x4, .i32⟩
  | 2 => ⟨S4096x512x4x4, .i32⟩
  | 3 => ⟨S4096x512x4x4, .i32⟩
  | 4 => ⟨S4096x512x4x4, .i32⟩
  | 5 => ⟨S4096x512x4x4, .i32⟩
  | 6 => ⟨S4096x512x4x4, .i32⟩
  | 7 => ⟨S_, .i32⟩
  | 8 => ⟨S4096x512x4x4, .i32⟩
  | 9 => ⟨S4096x512x4x4, .i32⟩
  | 10 => ⟨S4096x512x4x4, .i32⟩
  | 11 => ⟨S_, .i32⟩
  | 12 => ⟨S4096x512x4x4, .i32⟩
  | 13 => ⟨S4096x512x4x4, .i32⟩
  | 14 => ⟨S_, .i32⟩
  | 15 => ⟨S4096x512x4x4, .i32⟩
  | 16 => ⟨S4096x512x4x4, .i32⟩
  | 17 => ⟨S4096x512x4x4, .i32⟩
  | 18 => ⟨S4096x512x4x4, .i32⟩
  | 19 => ⟨S4096x512x4x4, .i32⟩
  | 20 => ⟨S_, .i32⟩
  | 21 => ⟨S4096x512x4x4, .i32⟩
  | 22 => ⟨S4096x512x4x4, .i32⟩
  | 23 => ⟨S_, .i32⟩
  | 24 => ⟨S4096x512x4x4, .i32⟩
  | 25 => ⟨S4096x512x4x4, .i32⟩
  | 26 => ⟨S4096x512x4x4, .i32⟩
  | 27 => ⟨S4096x512x4x4, .i32⟩
  | 28 => ⟨S4096x512x4x4, .i32⟩
  | 29 => ⟨S_, .i32⟩
  | 30 => ⟨S4096x512x4x4, .i32⟩
  | 31 => ⟨S4096x512x4x4, .i32⟩
  | 32 => ⟨S_, .i32⟩
  | 33 => ⟨S4096x512x4x4, .i32⟩
  | 34 => ⟨S4096x512x4x4, .i32⟩
  | 35 => ⟨S4096x512x4x4, .i32⟩
  | 36 => ⟨S4096x512x4x4, .i32⟩
  | 37 => ⟨S4096x512x4x4, .i32⟩
  | 38 => ⟨S_, .i32⟩
  | 39 => ⟨S4096x512x4x4, .i32⟩
  | 40 => ⟨S4096x512x4x4, .i32⟩
  | 41 => ⟨S_, .i32⟩
  | 42 => ⟨S4096x512x4x4, .i32⟩
  | 43 => ⟨S4096x512x4x4, .i32⟩
  | 44 => ⟨S4096x512x4x4, .i32⟩
  | 45 => ⟨S4096x512x4x4, .i32⟩
  | 46 => ⟨S4096x512x4x4, .i32⟩
  | 47 => ⟨S4096x512x4x4, .i32⟩
  | 48 => ⟨S4096x512x4x4, .i32⟩
  | 49 => ⟨S4096x512x4x4, .i32⟩
  | 50 => ⟨S_, .i32⟩
  | 51 => ⟨S4096x512x4x4, .i32⟩
  | 52 => ⟨S4096x512x4x4, .i32⟩
  | 53 => ⟨S4096x512x4x4, .i32⟩
  | 54 => ⟨S_, .i32⟩
  | 55 => ⟨S4096x512x4x4, .i32⟩
  | 56 => ⟨S4096x512x4x4, .i32⟩
  | 57 => ⟨S_, .i32⟩
  | 58 => ⟨S4096x512x4x4, .i32⟩
  | 59 => ⟨S4096x512x4x4, .i32⟩
  | 60 => ⟨S4096x512x4x4, .f32⟩
  | 61 => ⟨S_, .f32⟩
  | 62 => ⟨S4096x512x4x4, .f32⟩
  | 63 => ⟨S4096x512x4x4, .f32⟩
  | 64 => ⟨S1x1x1x1, .f32⟩
  | 65 => ⟨S4096x512x4x4, .f32⟩
  | 66 => ⟨S4096x512x4x4, .f32⟩
  | 67 => ⟨S4096x512x4x4, .f32⟩
  | 68 => ⟨S4096x512x4x4, .f32⟩
  | 69 => ⟨S4096x512x4x4, .f32⟩
  | 70 => ⟨S4096x512x4x4, .f32⟩
  | 71 => ⟨S4096x512x4x4, .f32⟩
  | 72 => ⟨S4096x512x4x4, .i1⟩
  | 73 => ⟨S_, .f32⟩
  | 74 => ⟨S4096x512x4x4, .f32⟩
  | 75 => ⟨S4096x512x4x4, .f32⟩
  | 76 => ⟨S_, .f32⟩
  | 77 => ⟨S4096x512x4x4, .f32⟩
  | 78 => ⟨S4096x512x4x4, .f32⟩
  | 79 => ⟨S_, .i32⟩
  | 80 => ⟨S4096, .i32⟩
  | 81 => ⟨S4096, .i1⟩
  | 82 => ⟨S_, .i32⟩
  | 83 => ⟨S4096, .i32⟩
  | 84 => ⟨S4096, .i32⟩
  | 85 => ⟨S4096, .i32⟩
  | 86 => ⟨S4096x1, .i32⟩
  | 87 => ⟨S4096x512x4x4, .f32⟩
  | _ => ⟨S4096x512x4x4, .f32⟩

abbrev hbmTy (i : Nat) : BufTy := match i / 128 with
  | 0 => hbmTy0_0 i
  | 1 => hbmTy0_1 i
  | 2 => hbmTy0_2 i
  | _ => ⟨S4096x512x4x4, .f32⟩

abbrev bufTy : (tb : Table) → Fin (tcTables nBuf tb) → BufTy
  | .hbm, ⟨i, _⟩ => hbmTy i
  | _, _ => ⟨S4096x512x4x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1_0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_call1_cst : Ref sig .tc := ⟨.hbm, 53, rfl⟩
abbrev main_call1_cst_0 : Ref sig .tc := ⟨.hbm, 54, rfl⟩
abbrev main_call1_call0_v0 : Ref sig .tc := ⟨.hbm, 55, rfl⟩
abbrev main_call1_call0_v1 : Ref sig .tc := ⟨.hbm, 56, rfl⟩
abbrev main_call1_call0_v2 : Ref sig .tc := ⟨.hbm, 57, rfl⟩
abbrev main_call1_call0_v3 : Ref sig .tc := ⟨.hbm, 58, rfl⟩
abbrev main_call1_call0_v4 : Ref sig .tc := ⟨.hbm, 59, rfl⟩
abbrev main_call1_call0_v5 : Ref sig .tc := ⟨.hbm, 60, rfl⟩
abbrev main_call1_call0_v6 : Ref sig .tc := ⟨.hbm, 61, rfl⟩
abbrev main_call1_call0_v7 : Ref sig .tc := ⟨.hbm, 62, rfl⟩
abbrev main_call1_call0_v8 : Ref sig .tc := ⟨.hbm, 63, rfl⟩
abbrev main_call1_call0_v9 : Ref sig .tc := ⟨.hbm, 64, rfl⟩
abbrev main_call1_call0_v10 : Ref sig .tc := ⟨.hbm, 65, rfl⟩
abbrev main_call1_call0_v11 : Ref sig .tc := ⟨.hbm, 66, rfl⟩
abbrev main_call1_call0_c : Ref sig .tc := ⟨.hbm, 67, rfl⟩
abbrev main_call1_call0_v12 : Ref sig .tc := ⟨.hbm, 68, rfl⟩
abbrev main_call1_call0_v13 : Ref sig .tc := ⟨.hbm, 69, rfl⟩
abbrev main_call1_call0_c_0 : Ref sig .tc := ⟨.hbm, 70, rfl⟩
abbrev main_call1_call0_v14 : Ref sig .tc := ⟨.hbm, 71, rfl⟩
abbrev main_call1_call0_v15 : Ref sig .tc := ⟨.hbm, 72, rfl⟩
abbrev main_call1_call0_c_1 : Ref sig .tc := ⟨.hbm, 73, rfl⟩
abbrev main_call1_call0_v16 : Ref sig .tc := ⟨.hbm, 74, rfl⟩
abbrev main_call1_call0_v17 : Ref sig .tc := ⟨.hbm, 75, rfl⟩
abbrev main_call1_call0_c_2 : Ref sig .tc := ⟨.hbm, 76, rfl⟩
abbrev main_call1_call0_v18 : Ref sig .tc := ⟨.hbm, 77, rfl⟩
abbrev main_call1_call0_v19 : Ref sig .tc := ⟨.hbm, 78, rfl⟩
abbrev main_call1_call0_v20 : Ref sig .tc := ⟨.hbm, 79, rfl⟩
abbrev main_call1_call0_v21 : Ref sig .tc := ⟨.hbm, 80, rfl⟩
abbrev main_call1_call0_v22 : Ref sig .tc := ⟨.hbm, 81, rfl⟩
abbrev main_call1_call0_c_3 : Ref sig .tc := ⟨.hbm, 82, rfl⟩
abbrev main_call1_call0_v23 : Ref sig .tc := ⟨.hbm, 83, rfl⟩
abbrev main_call1_call0_v24 : Ref sig .tc := ⟨.hbm, 84, rfl⟩
abbrev main_call1_call0_v25 : Ref sig .tc := ⟨.hbm, 85, rfl⟩
abbrev main_call1_call0_v26 : Ref sig .tc := ⟨.hbm, 86, rfl⟩
abbrev main_call1_call0_call0_v0 : Ref sig .tc := ⟨.hbm, 87, rfl⟩
abbrev main_call1_call0_call0_c : Ref sig .tc := ⟨.hbm, 88, rfl⟩
abbrev main_call1_call0_call0_v1 : Ref sig .tc := ⟨.hbm, 89, rfl⟩
abbrev main_call1_call0_call0_v2 : Ref sig .tc := ⟨.hbm, 90, rfl⟩
abbrev main_call1_call0_call0_v3 : Ref sig .tc := ⟨.hbm, 91, rfl⟩
abbrev main_call1_call0_call0_v4 : Ref sig .tc := ⟨.hbm, 92, rfl⟩
abbrev main_call1_call0_call0_v5 : Ref sig .tc := ⟨.hbm, 93, rfl⟩
abbrev main_call1_call0_call0_v6 : Ref sig .tc := ⟨.hbm, 94, rfl⟩
abbrev main_call1_call0_call0_c_0 : Ref sig .tc := ⟨.hbm, 95, rfl⟩
abbrev main_call1_call0_call0_v7 : Ref sig .tc := ⟨.hbm, 96, rfl⟩
abbrev main_call1_call0_call0_v8 : Ref sig .tc := ⟨.hbm, 97, rfl⟩
abbrev main_call1_call0_call0_c_1 : Ref sig .tc := ⟨.hbm, 98, rfl⟩
abbrev main_call1_call0_call0_v9 : Ref sig .tc := ⟨.hbm, 99, rfl⟩
abbrev main_call1_call0_call0_v10 : Ref sig .tc := ⟨.hbm, 100, rfl⟩
abbrev main_call1_call0_call0_v11 : Ref sig .tc := ⟨.hbm, 101, rfl⟩
abbrev main_call1_call0_call0_v12 : Ref sig .tc := ⟨.hbm, 102, rfl⟩
abbrev main_call1_call0_call0_v13 : Ref sig .tc := ⟨.hbm, 103, rfl⟩
abbrev main_call1_call0_call0_c_2 : Ref sig .tc := ⟨.hbm, 104, rfl⟩
abbrev main_call1_call0_call0_v14 : Ref sig .tc := ⟨.hbm, 105, rfl⟩
abbrev main_call1_call0_call0_v15 : Ref sig .tc := ⟨.hbm, 106, rfl⟩
abbrev main_call1_call0_call0_c_3 : Ref sig .tc := ⟨.hbm, 107, rfl⟩
abbrev main_call1_call0_call0_v16 : Ref sig .tc := ⟨.hbm, 108, rfl⟩
abbrev main_call1_call0_call0_v17 : Ref sig .tc := ⟨.hbm, 109, rfl⟩
abbrev main_call1_call0_call0_v18 : Ref sig .tc := ⟨.hbm, 110, rfl⟩
abbrev main_call1_call0_call0_v19 : Ref sig .tc := ⟨.hbm, 111, rfl⟩
abbrev main_call1_call0_call0_v20 : Ref sig .tc := ⟨.hbm, 112, rfl⟩
abbrev main_call1_call0_call0_c_4 : Ref sig .tc := ⟨.hbm, 113, rfl⟩
abbrev main_call1_call0_call0_v21 : Ref sig .tc := ⟨.hbm, 114, rfl⟩
abbrev main_call1_call0_call0_v22 : Ref sig .tc := ⟨.hbm, 115, rfl⟩
abbrev main_call1_call0_call0_c_5 : Ref sig .tc := ⟨.hbm, 116, rfl⟩
abbrev main_call1_call0_call0_v23 : Ref sig .tc := ⟨.hbm, 117, rfl⟩
abbrev main_call1_call0_call0_v24 : Ref sig .tc := ⟨.hbm, 118, rfl⟩
abbrev main_call1_call0_call0_v25 : Ref sig .tc := ⟨.hbm, 119, rfl⟩
abbrev main_call1_call0_call0_v26 : Ref sig .tc := ⟨.hbm, 120, rfl⟩
abbrev main_call1_call0_call0_v27 : Ref sig .tc := ⟨.hbm, 121, rfl⟩
abbrev main_call1_call0_call0_c_6 : Ref sig .tc := ⟨.hbm, 122, rfl⟩
abbrev main_call1_call0_call0_v28 : Ref sig .tc := ⟨.hbm, 123, rfl⟩
abbrev main_call1_call0_call0_v29 : Ref sig .tc := ⟨.hbm, 124, rfl⟩
abbrev main_call1_call0_call0_c_7 : Ref sig .tc := ⟨.hbm, 125, rfl⟩
abbrev main_call1_call0_call0_v30 : Ref sig .tc := ⟨.hbm, 126, rfl⟩
abbrev main_call1_call0_call0_v31 : Ref sig .tc := ⟨.hbm, 127, rfl⟩
abbrev main_call1_call0_call0_v32 : Ref sig .tc := ⟨.hbm, 128, rfl⟩
abbrev main_call1_call0_call0_v33 : Ref sig .tc := ⟨.hbm, 129, rfl⟩
abbrev main_call1_call0_call0_v34 : Ref sig .tc := ⟨.hbm, 130, rfl⟩
abbrev main_call1_call0_call0_v35 : Ref sig .tc := ⟨.hbm, 131, rfl⟩
abbrev main_call1_call0_call0_v36 : Ref sig .tc := ⟨.hbm, 132, rfl⟩
abbrev main_call1_call0_call0_v37 : Ref sig .tc := ⟨.hbm, 133, rfl⟩
abbrev main_call1_call0_call0_c_8 : Ref sig .tc := ⟨.hbm, 134, rfl⟩
abbrev main_call1_call0_call0_v38 : Ref sig .tc := ⟨.hbm, 135, rfl⟩
abbrev main_call1_call0_call0_v39 : Ref sig .tc := ⟨.hbm, 136, rfl⟩
abbrev main_call1_call0_call0_v40 : Ref sig .tc := ⟨.hbm, 137, rfl⟩
abbrev main_call1_call0_call0_c_9 : Ref sig .tc := ⟨.hbm, 138, rfl⟩
abbrev main_call1_call0_call0_v41 : Ref sig .tc := ⟨.hbm, 139, rfl⟩
abbrev main_call1_call0_call0_v42 : Ref sig .tc := ⟨.hbm, 140, rfl⟩
abbrev main_call1_call0_call0_c_10 : Ref sig .tc := ⟨.hbm, 141, rfl⟩
abbrev main_call1_call0_call0_v43 : Ref sig .tc := ⟨.hbm, 142, rfl⟩
abbrev main_call1_call0_call0_v44 : Ref sig .tc := ⟨.hbm, 143, rfl⟩
abbrev main_call1_call0_call0_v45 : Ref sig .tc := ⟨.hbm, 144, rfl⟩
abbrev main_call1_call0_call0_v46 : Ref sig .tc := ⟨.hbm, 145, rfl⟩
abbrev main_call1_call0_call0_v47 : Ref sig .tc := ⟨.hbm, 146, rfl⟩
abbrev main_call1_call0_call0_c_11 : Ref sig .tc := ⟨.hbm, 147, rfl⟩
abbrev main_call1_call0_call0_v48 : Ref sig .tc := ⟨.hbm, 148, rfl⟩
abbrev main_call1_call0_call0_v49 : Ref sig .tc := ⟨.hbm, 149, rfl⟩
abbrev main_call1_call0_call0_c_12 : Ref sig .tc := ⟨.hbm, 150, rfl⟩
abbrev main_call1_call0_call0_v50 : Ref sig .tc := ⟨.hbm, 151, rfl⟩
abbrev main_call1_call0_call0_v51 : Ref sig .tc := ⟨.hbm, 152, rfl⟩
abbrev main_call1_call0_call0_v52 : Ref sig .tc := ⟨.hbm, 153, rfl⟩
abbrev main_call1_call0_call0_v53 : Ref sig .tc := ⟨.hbm, 154, rfl⟩
abbrev main_call1_call0_call0_v54 : Ref sig .tc := ⟨.hbm, 155, rfl⟩
abbrev main_call1_call0_call0_c_13 : Ref sig .tc := ⟨.hbm, 156, rfl⟩
abbrev main_call1_call0_call0_v55 : Ref sig .tc := ⟨.hbm, 157, rfl⟩
abbrev main_call1_call0_call0_v56 : Ref sig .tc := ⟨.hbm, 158, rfl⟩
abbrev main_call1_call0_call0_c_14 : Ref sig .tc := ⟨.hbm, 159, rfl⟩
abbrev main_call1_call0_call0_v57 : Ref sig .tc := ⟨.hbm, 160, rfl⟩
abbrev main_call1_call0_call0_v58 : Ref sig .tc := ⟨.hbm, 161, rfl⟩
abbrev main_call1_call0_call0_v59 : Ref sig .tc := ⟨.hbm, 162, rfl⟩
abbrev main_call1_call0_call0_v60 : Ref sig .tc := ⟨.hbm, 163, rfl⟩
abbrev main_call1_call0_call0_v61 : Ref sig .tc := ⟨.hbm, 164, rfl⟩
abbrev main_call1_call0_call0_c_15 : Ref sig .tc := ⟨.hbm, 165, rfl⟩
abbrev main_call1_call0_call0_v62 : Ref sig .tc := ⟨.hbm, 166, rfl⟩
abbrev main_call1_call0_call0_v63 : Ref sig .tc := ⟨.hbm, 167, rfl⟩
abbrev main_call1_call0_call0_c_16 : Ref sig .tc := ⟨.hbm, 168, rfl⟩
abbrev main_call1_call0_call0_v64 : Ref sig .tc := ⟨.hbm, 169, rfl⟩
abbrev main_call1_call0_call0_v65 : Ref sig .tc := ⟨.hbm, 170, rfl⟩
abbrev main_call1_call0_call0_v66 : Ref sig .tc := ⟨.hbm, 171, rfl⟩
abbrev main_call1_call0_call0_v67 : Ref sig .tc := ⟨.hbm, 172, rfl⟩
abbrev main_call1_call0_call0_v68 : Ref sig .tc := ⟨.hbm, 173, rfl⟩
abbrev main_call1_call0_call0_v69 : Ref sig .tc := ⟨.hbm, 174, rfl⟩
abbrev main_call1_call0_call0_v70 : Ref sig .tc := ⟨.hbm, 175, rfl⟩
abbrev main_call1_call0_call0_v71 : Ref sig .tc := ⟨.hbm, 176, rfl⟩
abbrev main_call1_call0_call0_c_17 : Ref sig .tc := ⟨.hbm, 177, rfl⟩
abbrev main_call1_call0_call0_v72 : Ref sig .tc := ⟨.hbm, 178, rfl⟩
abbrev main_call1_call0_call0_v73 : Ref sig .tc := ⟨.hbm, 179, rfl⟩
abbrev main_call1_call0_call0_v74 : Ref sig .tc := ⟨.hbm, 180, rfl⟩
abbrev main_call1_call0_call0_c_18 : Ref sig .tc := ⟨.hbm, 181, rfl⟩
abbrev main_call1_call0_call0_v75 : Ref sig .tc := ⟨.hbm, 182, rfl⟩
abbrev main_call1_call0_call0_v76 : Ref sig .tc := ⟨.hbm, 183, rfl⟩
abbrev main_call1_call0_call0_c_19 : Ref sig .tc := ⟨.hbm, 184, rfl⟩
abbrev main_call1_call0_call0_v77 : Ref sig .tc := ⟨.hbm, 185, rfl⟩
abbrev main_call1_call0_call0_v78 : Ref sig .tc := ⟨.hbm, 186, rfl⟩
abbrev main_call1_call0_call0_v79 : Ref sig .tc := ⟨.hbm, 187, rfl⟩
abbrev main_call1_call0_call0_v80 : Ref sig .tc := ⟨.hbm, 188, rfl⟩
abbrev main_call1_call0_call0_v81 : Ref sig .tc := ⟨.hbm, 189, rfl⟩
abbrev main_call1_call0_call0_c_20 : Ref sig .tc := ⟨.hbm, 190, rfl⟩
abbrev main_call1_call0_call0_v82 : Ref sig .tc := ⟨.hbm, 191, rfl⟩
abbrev main_call1_call0_call0_v83 : Ref sig .tc := ⟨.hbm, 192, rfl⟩
abbrev main_call1_call0_call0_c_21 : Ref sig .tc := ⟨.hbm, 193, rfl⟩
abbrev main_call1_call0_call0_v84 : Ref sig .tc := ⟨.hbm, 194, rfl⟩
abbrev main_call1_call0_call0_v85 : Ref sig .tc := ⟨.hbm, 195, rfl⟩
abbrev main_call1_call0_call0_v86 : Ref sig .tc := ⟨.hbm, 196, rfl⟩
abbrev main_call1_call0_call0_v87 : Ref sig .tc := ⟨.hbm, 197, rfl⟩
abbrev main_call1_call0_call0_v88 : Ref sig .tc := ⟨.hbm, 198, rfl⟩
abbrev main_call1_call0_call0_c_22 : Ref sig .tc := ⟨.hbm, 199, rfl⟩
abbrev main_call1_call0_call0_v89 : Ref sig .tc := ⟨.hbm, 200, rfl⟩
abbrev main_call1_call0_call0_v90 : Ref sig .tc := ⟨.hbm, 201, rfl⟩
abbrev main_call1_call0_call0_c_23 : Ref sig .tc := ⟨.hbm, 202, rfl⟩
abbrev main_call1_call0_call0_v91 : Ref sig .tc := ⟨.hbm, 203, rfl⟩
abbrev main_call1_call0_call0_v92 : Ref sig .tc := ⟨.hbm, 204, rfl⟩
abbrev main_call1_call0_call0_v93 : Ref sig .tc := ⟨.hbm, 205, rfl⟩
abbrev main_call1_call0_call0_v94 : Ref sig .tc := ⟨.hbm, 206, rfl⟩
abbrev main_call1_call0_call0_v95 : Ref sig .tc := ⟨.hbm, 207, rfl⟩
abbrev main_call1_call0_call0_c_24 : Ref sig .tc := ⟨.hbm, 208, rfl⟩
abbrev main_call1_call0_call0_v96 : Ref sig .tc := ⟨.hbm, 209, rfl⟩
abbrev main_call1_call0_call0_v97 : Ref sig .tc := ⟨.hbm, 210, rfl⟩
abbrev main_call1_call0_call0_c_25 : Ref sig .tc := ⟨.hbm, 211, rfl⟩
abbrev main_call1_call0_call0_v98 : Ref sig .tc := ⟨.hbm, 212, rfl⟩
abbrev main_call1_call0_call0_v99 : Ref sig .tc := ⟨.hbm, 213, rfl⟩
abbrev main_call1_call0_call0_v100 : Ref sig .tc := ⟨.hbm, 214, rfl⟩
abbrev main_call1_call0_call0_v101 : Ref sig .tc := ⟨.hbm, 215, rfl⟩
abbrev main_call1_call0_call0_v102 : Ref sig .tc := ⟨.hbm, 216, rfl⟩
abbrev main_call1_call0_call0_v103 : Ref sig .tc := ⟨.hbm, 217, rfl⟩
abbrev main_call1_call0_call0_v104 : Ref sig .tc := ⟨.hbm, 218, rfl⟩
abbrev main_call1_call0_call0_v105 : Ref sig .tc := ⟨.hbm, 219, rfl⟩
abbrev main_call1_call0_call0_c_26 : Ref sig .tc := ⟨.hbm, 220, rfl⟩
abbrev main_call1_call0_call0_v106 : Ref sig .tc := ⟨.hbm, 221, rfl⟩
abbrev main_call1_call0_call0_v107 : Ref sig .tc := ⟨.hbm, 222, rfl⟩
abbrev main_call1_call0_call0_v108 : Ref sig .tc := ⟨.hbm, 223, rfl⟩
abbrev main_call1_call0_call0_c_27 : Ref sig .tc := ⟨.hbm, 224, rfl⟩
abbrev main_call1_call0_call0_v109 : Ref sig .tc := ⟨.hbm, 225, rfl⟩
abbrev main_call1_call0_call0_v110 : Ref sig .tc := ⟨.hbm, 226, rfl⟩
abbrev main_call1_call0_call0_c_28 : Ref sig .tc := ⟨.hbm, 227, rfl⟩
abbrev main_call1_call0_call0_v111 : Ref sig .tc := ⟨.hbm, 228, rfl⟩
abbrev main_call1_call0_call0_v112 : Ref sig .tc := ⟨.hbm, 229, rfl⟩
abbrev main_call1_call0_call0_v113 : Ref sig .tc := ⟨.hbm, 230, rfl⟩
abbrev main_call1_call0_call0_v114 : Ref sig .tc := ⟨.hbm, 231, rfl⟩
abbrev main_call1_call0_call0_v115 : Ref sig .tc := ⟨.hbm, 232, rfl⟩
abbrev main_call1_call0_call0_c_29 : Ref sig .tc := ⟨.hbm, 233, rfl⟩
abbrev main_call1_call0_call0_v116 : Ref sig .tc := ⟨.hbm, 234, rfl⟩
abbrev main_call1_call0_call0_v117 : Ref sig .tc := ⟨.hbm, 235, rfl⟩
abbrev main_call1_call0_call0_c_30 : Ref sig .tc := ⟨.hbm, 236, rfl⟩
abbrev main_call1_call0_call0_v118 : Ref sig .tc := ⟨.hbm, 237, rfl⟩
abbrev main_call1_call0_call0_v119 : Ref sig .tc := ⟨.hbm, 238, rfl⟩
abbrev main_call1_call0_call0_v120 : Ref sig .tc := ⟨.hbm, 239, rfl⟩
abbrev main_call1_call0_call0_v121 : Ref sig .tc := ⟨.hbm, 240, rfl⟩
abbrev main_call1_call0_call0_v122 : Ref sig .tc := ⟨.hbm, 241, rfl⟩
abbrev main_call1_call0_call0_c_31 : Ref sig .tc := ⟨.hbm, 242, rfl⟩
abbrev main_call1_call0_call0_v123 : Ref sig .tc := ⟨.hbm, 243, rfl⟩
abbrev main_call1_call0_call0_v124 : Ref sig .tc := ⟨.hbm, 244, rfl⟩
abbrev main_call1_call0_call0_c_32 : Ref sig .tc := ⟨.hbm, 245, rfl⟩
abbrev main_call1_call0_call0_v125 : Ref sig .tc := ⟨.hbm, 246, rfl⟩
abbrev main_call1_call0_call0_v126 : Ref sig .tc := ⟨.hbm, 247, rfl⟩
abbrev main_call1_call0_call0_v127 : Ref sig .tc := ⟨.hbm, 248, rfl⟩
abbrev main_call1_call0_call0_v128 : Ref sig .tc := ⟨.hbm, 249, rfl⟩
abbrev main_call1_call0_call0_v129 : Ref sig .tc := ⟨.hbm, 250, rfl⟩
abbrev main_call1_call0_call0_c_33 : Ref sig .tc := ⟨.hbm, 251, rfl⟩
abbrev main_call1_call0_call0_v130 : Ref sig .tc := ⟨.hbm, 252, rfl⟩
abbrev main_call1_call0_call0_v131 : Ref sig .tc := ⟨.hbm, 253, rfl⟩
abbrev main_call1_call0_call0_c_34 : Ref sig .tc := ⟨.hbm, 254, rfl⟩
abbrev main_call1_call0_call0_v132 : Ref sig .tc := ⟨.hbm, 255, rfl⟩
abbrev main_call1_call0_call0_v133 : Ref sig .tc := ⟨.hbm, 256, rfl⟩
abbrev main_call1_call0_call0_v134 : Ref sig .tc := ⟨.hbm, 257, rfl⟩
abbrev main_call1_call0_call0_v135 : Ref sig .tc := ⟨.hbm, 258, rfl⟩
abbrev main_call1_call0_call0_v136 : Ref sig .tc := ⟨.hbm, 259, rfl⟩
abbrev main_call1_call0_call0_v137 : Ref sig .tc := ⟨.hbm, 260, rfl⟩
abbrev main_call1_call0_call0_v138 : Ref sig .tc := ⟨.hbm, 261, rfl⟩
abbrev main_call1_call0_call0_v139 : Ref sig .tc := ⟨.hbm, 262, rfl⟩
abbrev main_call1_call0_call0_c_35 : Ref sig .tc := ⟨.hbm, 263, rfl⟩
abbrev main_call1_call0_call0_v140 : Ref sig .tc := ⟨.hbm, 264, rfl⟩
abbrev main_call1_call0_call0_v141 : Ref sig .tc := ⟨.hbm, 265, rfl⟩
abbrev main_call1_call0_call0_v142 : Ref sig .tc := ⟨.hbm, 266, rfl⟩
abbrev main_call1_call0_call0_c_36 : Ref sig .tc := ⟨.hbm, 267, rfl⟩
abbrev main_call1_call0_call0_v143 : Ref sig .tc := ⟨.hbm, 268, rfl⟩
abbrev main_call1_call0_call0_v144 : Ref sig .tc := ⟨.hbm, 269, rfl⟩
abbrev main_call1_call0_call0_c_37 : Ref sig .tc := ⟨.hbm, 270, rfl⟩
abbrev main_call1_call0_call0_v145 : Ref sig .tc := ⟨.hbm, 271, rfl⟩
abbrev main_call1_call0_call0_v146 : Ref sig .tc := ⟨.hbm, 272, rfl⟩
abbrev main_call1_call0_call0_v147 : Ref sig .tc := ⟨.hbm, 273, rfl⟩
abbrev main_call1_call0_call0_v148 : Ref sig .tc := ⟨.hbm, 274, rfl⟩
abbrev main_call1_call0_call0_v149 : Ref sig .tc := ⟨.hbm, 275, rfl⟩
abbrev main_call1_call0_call0_c_38 : Ref sig .tc := ⟨.hbm, 276, rfl⟩
abbrev main_call1_call0_call0_v150 : Ref sig .tc := ⟨.hbm, 277, rfl⟩
abbrev main_call1_call0_call0_v151 : Ref sig .tc := ⟨.hbm, 278, rfl⟩
abbrev main_call1_call0_call0_c_39 : Ref sig .tc := ⟨.hbm, 279, rfl⟩
abbrev main_call1_call0_call0_v152 : Ref sig .tc := ⟨.hbm, 280, rfl⟩
abbrev main_call1_call0_call0_v153 : Ref sig .tc := ⟨.hbm, 281, rfl⟩
abbrev main_call1_call0_call0_v154 : Ref sig .tc := ⟨.hbm, 282, rfl⟩
abbrev main_call1_call0_call0_v155 : Ref sig .tc := ⟨.hbm, 283, rfl⟩
abbrev main_call1_call0_call0_v156 : Ref sig .tc := ⟨.hbm, 284, rfl⟩
abbrev main_call1_call0_call0_c_40 : Ref sig .tc := ⟨.hbm, 285, rfl⟩
abbrev main_call1_call0_call0_v157 : Ref sig .tc := ⟨.hbm, 286, rfl⟩
abbrev main_call1_call0_call0_v158 : Ref sig .tc := ⟨.hbm, 287, rfl⟩
abbrev main_call1_call0_call0_c_41 : Ref sig .tc := ⟨.hbm, 288, rfl⟩
abbrev main_call1_call0_call0_v159 : Ref sig .tc := ⟨.hbm, 289, rfl⟩
abbrev main_call1_call0_call0_v160 : Ref sig .tc := ⟨.hbm, 290, rfl⟩
abbrev main_call1_call0_call0_v161 : Ref sig .tc := ⟨.hbm, 291, rfl⟩
abbrev main_call1_call0_call0_v162 : Ref sig .tc := ⟨.hbm, 292, rfl⟩
abbrev main_call1_call0_call0_v163 : Ref sig .tc := ⟨.hbm, 293, rfl⟩
abbrev main_call1_call0_call0_c_42 : Ref sig .tc := ⟨.hbm, 294, rfl⟩
abbrev main_call1_call0_call0_v164 : Ref sig .tc := ⟨.hbm, 295, rfl⟩
abbrev main_call1_call0_call0_v165 : Ref sig .tc := ⟨.hbm, 296, rfl⟩
abbrev main_call1_call0_call0_c_43 : Ref sig .tc := ⟨.hbm, 297, rfl⟩
abbrev main_call1_call0_call0_v166 : Ref sig .tc := ⟨.hbm, 298, rfl⟩
abbrev main_call1_call0_call0_v167 : Ref sig .tc := ⟨.hbm, 299, rfl⟩
abbrev main_call1_call0_call0_v168 : Ref sig .tc := ⟨.hbm, 300, rfl⟩
abbrev main_call1_call0_call0_v169 : Ref sig .tc := ⟨.hbm, 301, rfl⟩
abbrev main_call1_call0_call0_v170 : Ref sig .tc := ⟨.hbm, 302, rfl⟩
abbrev main_call1_call0_v27_0 : Ref sig .tc := ⟨.hbm, 303, rfl⟩
abbrev main_call1_call0_call0_v172 : Ref sig .tc := ⟨.hbm, 304, rfl⟩
abbrev main_call1_call0_call0_v173 : Ref sig .tc := ⟨.hbm, 305, rfl⟩
abbrev main_call1_call0_call0_c_44 : Ref sig .tc := ⟨.hbm, 306, rfl⟩
abbrev main_call1_call0_call0_v174 : Ref sig .tc := ⟨.hbm, 307, rfl⟩
abbrev main_call1_call0_v27_1 : Ref sig .tc := ⟨.hbm, 308, rfl⟩
abbrev main_call1_call0_v28 : Ref sig .tc := ⟨.hbm, 309, rfl⟩
abbrev main_call1_call0_c_4 : Ref sig .tc := ⟨.hbm, 310, rfl⟩
abbrev main_call1_call0_v29 : Ref sig .tc := ⟨.hbm, 311, rfl⟩
abbrev main_call1_call0_v30 : Ref sig .tc := ⟨.hbm, 312, rfl⟩
abbrev main_call1_call0_c_5 : Ref sig .tc := ⟨.hbm, 313, rfl⟩
abbrev main_call1_call0_v31 : Ref sig .tc := ⟨.hbm, 314, rfl⟩
abbrev main_call1_call0_v32 : Ref sig .tc := ⟨.hbm, 315, rfl⟩
abbrev main_call1_call0_v33 : Ref sig .tc := ⟨.hbm, 316, rfl⟩
abbrev main_call1_call0_cst : Ref sig .tc := ⟨.hbm, 317, rfl⟩
abbrev main_call1_call0_v34 : Ref sig .tc := ⟨.hbm, 318, rfl⟩
abbrev main_call1_call0_v35 : Ref sig .tc := ⟨.hbm, 319, rfl⟩
abbrev main_call1_call0_v36 : Ref sig .tc := ⟨.hbm, 320, rfl⟩
abbrev main_call1_call0_v37 : Ref sig .tc := ⟨.hbm, 321, rfl⟩
abbrev main_call1_call0_v38 : Ref sig .tc := ⟨.hbm, 322, rfl⟩
abbrev main_call1_call0_v39 : Ref sig .tc := ⟨.hbm, 323, rfl⟩
abbrev main_call1_call0_v40 : Ref sig .tc := ⟨.hbm, 324, rfl⟩
abbrev main_call1_call0_v41 : Ref sig .tc := ⟨.hbm, 325, rfl⟩
abbrev main_call1_v0 : Ref sig .tc := ⟨.hbm, 326, rfl⟩
abbrev main_call1_v1 : Ref sig .tc := ⟨.hbm, 327, rfl⟩
abbrev main_v37 : Ref sig .tc := ⟨.hbm, 328, rfl⟩
abbrev main_cst_9 : Ref sig .tc := ⟨.hbm, 329, rfl⟩
abbrev main_v38 : Ref sig .tc := ⟨.hbm, 330, rfl⟩
abbrev main_v39 : Ref sig .tc := ⟨.hbm, 331, rfl⟩
abbrev main_cst_10 : Ref sig .tc := ⟨.hbm, 332, rfl⟩
abbrev main_v40 : Ref sig .tc := ⟨.hbm, 333, rfl⟩
abbrev main_v41 : Ref sig .tc := ⟨.hbm, 334, rfl⟩
abbrev main_c_11 : Ref sig .tc := ⟨.hbm, 335, rfl⟩
abbrev main_v42 : Ref sig .tc := ⟨.hbm, 336, rfl⟩
abbrev main_v43 : Ref sig .tc := ⟨.hbm, 337, rfl⟩
abbrev main_c_12 : Ref sig .tc := ⟨.hbm, 338, rfl⟩
abbrev main_v44 : Ref sig .tc := ⟨.hbm, 339, rfl⟩
abbrev main_v45 : Ref sig .tc := ⟨.hbm, 340, rfl⟩
abbrev main_v46 : Ref sig .tc := ⟨.hbm, 341, rfl⟩
abbrev main_v47 : Ref sig .tc := ⟨.hbm, 342, rfl⟩
abbrev main_v48 : Ref sig .tc := ⟨.hbm, 343, rfl⟩

abbrev nD : Nat := 1
abbrev τ : Topo := Topo.v7x

variable {F : FTy → Type} [FloatOps F]
-- ==== Proof.Ref.Ops.lean ====
/-
  The operations of the reference program, in order and in eleven stretches, and the proof that the program is their
  straight line.
-/
module

public import proofs.«01_k».proof.ReferenceIdeal
public import proofs.«01_k».proof.Proof.Gen.ReferenceIdeal
public import Idealize.ShloMosaic.PureOps.Ideal
public import Idealize.ShloMosaic.Lib.StableHlo.Run
public import Idealize.ShloMosaic.Lib.StableHlo.RunHlo
public import Idealize.ShloMosaic.Lib.Pipeline.Frame

@[expose] public section

noncomputable section

namespace Cert.Proof.Ref

open Cert.ReferenceIdeal Cert.ReferenceIdeal.Gen
open Idealize.ShloMosaic Idealize.ShloMosaic.TcCoe Idealize.ShloMosaic.StableHlo Idealize.SL.Sem

/-- The contents of an array of shape `s` and element type `e`, at float values `F`. -/
abbrev C (F : FTy → Type) (s : Shape) (e : EltTy) : Type := (⟨s, e⟩ : BufTy).Contents (Elt F)

variable {F : FTy → Type} [FloatOps F]

/-- The score: mean, logits, softmax, negated. -/
abbrev opsA : List (HloOp τ sig (Elt F)) :=
  [ nullary main_cst (constant S_ .f32 0x00000000#32),
    binary main_arg0 main_cst main_v0 ((fun x v => Host.reduceAdd x v reducesTo_S4096x512x4x4_S4096x512_d2_3 h_S_) : C F S4096x512x4x4 .f32 → C F S_ .f32 → C F S4096x512 .f32),
    nullary main_cst_0 (constant S_ .f32 0x41800000#32),
    unary main_cst_0 main_v1 (broadcastInDim S4096x512 ![] bcast_S_S4096x512 : C F S_ .f32 → C F S4096x512 .f32),
    binary main_v0 main_v1 main_v2 (Host.divf : C F S4096x512 .f32 → C F S4096x512 .f32 → C F S4096x512 .f32),
    unary main_arg1 main_v3 ((transpose S512x1000 [1, 0] · transposes_S1000x512_S512x1000_1_0) : C F S1000x512 .f32 → C F S512x1000 .f32),
    binary main_v2 main_v3 main_v4 ((fun l r => Host.dotGeneral dot_S4096x512_S512x1000_S4096x1000_1_0_0_1_n_n none l r) : C F S4096x512 .f32 → C F S512x1000 .f32 → C F S4096x1000 .f32),
    unary main_arg2 main_v5 (broadcastInDim S1x1000 ![1] bcast_S1000_S1x1000_1 : C F S1000 .f32 → C F S1x1000 .f32),
    unary main_v5 main_v6 (broadcastInDim S4096x1000 ![0, 1] bcast_S1x1000_S4096x1000_0_1 : C F S1x1000 .f32 → C F S4096x1000 .f32),
    binary main_v4 main_v6 main_v7 (addf : C F S4096x1000 .f32 → C F S4096x1000 .f32 → C F S4096x1000 .f32),
    nullary main_cst_1 (constant S_ .f32 0xFF800000#32),
    binary main_v7 main_cst_1 main_v8 ((fun x v => Host.reduce FloatOps.maximumf x v reducesTo_S4096x1000_S4096_d1 h_S_) : C F S4096x1000 .f32 → C F S_ .f32 → C F S4096 .f32),
    nullary main_cst_2 (constant S_ .f32 0xFF800000#32),
    unary main_cst_2 main_v9 (broadcastInDim S4096 ![] bcast_S_S4096 : C F S_ .f32 → C F S4096 .f32),
    binary main_v9 main_v8 main_v10 (maximumf : C F S4096 .f32 → C F S4096 .f32 → C F S4096 .f32),
    unary main_v10 main_v11 (broadcastInDim S4096x1 ![0] bcast_S4096_S4096x1_0 : C F S4096 .f32 → C F S4096x1 .f32),
    unary main_v11 main_v12 (broadcastInDim S4096x1000 ![0, 1] bcast_S4096x1_S4096x1000_0_1 : C F S4096x1 .f32 → C F S4096x1000 .f32),
    binary main_v7 main_v12 main_v13 (subf : C F S4096x1000 .f32 → C F S4096x1000 .f32 → C F S4096x1000 .f32),
    unary main_v13 main_v14 (Host.exp : C F S4096x1000 .f32 → C F S4096x1000 .f32),
    nullary main_cst_3 (constant S_ .f32 0x00000000#32),
    binary main_v14 main_cst_3 main_v15 ((fun x v => Host.reduceAdd x v reducesTo_S4096x1000_S4096_d1 h_S_) : C F S4096x1000 .f32 → C F S_ .f32 → C F S4096 .f32),
    unary main_v15 main_v16 (broadcastInDim S4096x1 ![0] bcast_S4096_S4096x1_0 : C F S4096 .f32 → C F S4096x1 .f32),
    unary main_v16 main_v17 (broadcastInDim S4096x1000 ![0, 1] bcast_S4096x1_S4096x1000_0_1 : C F S4096x1 .f32 → C F S4096x1000 .f32),
    binary main_v14 main_v17 main_v18 (Host.divf : C F S4096x1000 .f32 → C F S4096x1000 .f32 → C F S4096x1000 .f32),
    unary main_v18 main_v19 (Host.negf : C F S4096x1000 .f32 → C F S4096x1000 .f32) ]

/-- The buffers that stretch writes, in order. -/
abbrev opsAW : List (Ref sig .tc) :=
  [ main_cst, main_v0, main_cst_0, main_v1, main_v2, main_v3, main_v4, main_v5, main_v6, main_v7, main_cst_1, main_v8, main_cst_2, main_v9, main_v10, main_v11, main_v12, main_v13, main_v14, main_cst_3, main_v15, main_v16, main_v17, main_v18, main_v19 ]

/-- The buffers that the stretch `opsA` writes, operation by operation. -/
theorem opsA_writes : (opsA : List (HloOp τ sig (Elt F))).map HloOp.writes = opsAW.map fun r => {Proc.devRef .tc r} := rfl

/-- The sort of the scores, its first column and the gather. -/
abbrev opsB : List (HloOp τ sig (Elt F)) :=
  [ nullary main_call0_v0 (iotaInDim S4096x1000 32 0),
    binary main_v19 main_call0_v0 main_call0_v1_0 ((fun x y => (Host.sort2 S4096x1000 0 comparator_f32_i32_d0 x y).1) : C F S4096x1000 .f32 → C F S4096x1000 .i32 → C F S4096x1000 .f32),
    binary main_v19 main_call0_v0 main_v20 ((fun x y => (Host.sort2 S4096x1000 0 comparator_f32_i32_d0 x y).2) : C F S4096x1000 .f32 → C F S4096x1000 .i32 → C F S4096x1000 .i32),
    unary main_v20 main_v21 ((extractStridedSlice S4096x1 ![0, 0] · slices_S4096x1000_S4096x1_0_0) : C F S4096x1000 .i32 → C F S4096x1 .i32),
    reshape main_v21 main_v22 (rfl : (.i32 : EltTy) = .i32) shapeCasts_S4096x1_S4096,
    nullary main_c (constantI S_ 32 0#32),
    unary main_c main_v23 (broadcastInDim S4096 ![] bcast_S_S4096 : C F S_ .i32 → C F S4096 .i32),
    binary main_v22 main_v23 main_v24 (cmpi .slt : C F S4096 .i32 → C F S4096 .i32 → C F S4096 .i1),
    nullary main_c_4 (constantI S_ 32 4096#32),
    unary main_c_4 main_v25 (broadcastInDim S4096 ![] bcast_S_S4096 : C F S_ .i32 → C F S4096 .i32),
    binary main_v22 main_v25 main_v26 (addi : C F S4096 .i32 → C F S4096 .i32 → C F S4096 .i32),
    ternary main_v24 main_v26 main_v22 main_v27 (select : C F S4096 .i1 → C F S4096 .i32 → C F S4096 .i32 → C F S4096 .i32),
    unary main_v27 main_v28 (broadcastInDim S4096x1 ![0] bcast_S4096_S4096x1_0 : C F S4096 .i32 → C F S4096x1 .i32),
    binary main_arg0 main_v28 main_v29 ((fun x i => Host.gather gather_S4096x512x4x4_S4096x1_S4096x512x4x4_123_0_n_n_0_1_151244 x i) : C F S4096x512x4x4 .f32 → C F S4096x1 .i32 → C F S4096x512x4x4 .f32) ]

/-- The buffers that stretch writes, in order. -/
abbrev opsBW : List (Ref sig .tc) :=
  [ main_call0_v0, main_call0_v1_0, main_v20, main_v21, main_v22, main_c, main_v23, main_v24, main_c_4, main_v25, main_v26, main_v27, main_v28, main_v29 ]

/-- The buffers that the stretch `opsB` writes, operation by operation. -/
theorem opsB_writes : (opsB : List (HloOp τ sig (Elt F))).map HloOp.writes = opsBW.map fun r => {Proc.devRef .tc r} := rfl

/-- The two keys and the two counter words. -/
abbrev opsC : List (HloOp τ sig (Elt F)) :=
  [ nullary main_c_5 (constantI S_ 32 42#32),
    nullary main_c_6 (constantI S_ 32 32#32),
    binary main_c_5 main_c_6 main_v30 (Host.shrui : C F S_ .i32 → C F S_ .i32 → C F S_ .i32),
    unary main_v30 main_v31 (id : C F S_ .i32 → C F S_ .i32),
    unary main_v31 main_v32 (broadcastInDim S1 ![] bcast_S_S1 : C F S_ .i32 → C F S1 .i32),
    nullary main_c_7 (constantI S_ 32 4294967295#32),
    binary main_c_5 main_c_7 main_v33 (andi : C F S_ .i32 → C F S_ .i32 → C F S_ .i32),
    unary main_v33 main_v34 (id : C F S_ .i32 → C F S_ .i32),
    unary main_v34 main_v35 (broadcastInDim S1 ![] bcast_S_S1 : C F S_ .i32 → C F S1 .i32),
    binary main_v32 main_v35 main_v36 ((fun a b => concatenate S2 0 [⟨S1, a⟩, ⟨S1, b⟩] concatenates_S1_S1_S2_d0) : C F S1 .i32 → C F S1 .i32 → C F S2 .i32),
    nullary main_cst_8 (constant S_ .f32 0x3F000000#32),
    nullary main_call1_cst (constant S_ .f32 0x00000000#32),
    nullary main_call1_cst_0 (constant S_ .f32 0x3F800000#32),
    unary main_call1_cst main_call1_call0_v0 (id : C F S_ .f32 → C F S_ .f32),
    unary main_call1_cst_0 main_call1_call0_v1 (id : C F S_ .f32 → C F S_ .f32),
    unary main_call1_call0_v0 main_call1_call0_v2 ((broadcastInDim S1x1x1x1 ![] bcast_S_S1x1x1x1) : C F S_ .f32 → C F S1x1x1x1 .f32),
    unary main_call1_call0_v1 main_call1_call0_v3 ((broadcastInDim S1x1x1x1 ![] bcast_S_S1x1x1x1) : C F S_ .f32 → C F S1x1x1x1 .f32),
    unary main_v36 main_call1_call0_v4 ((extractStridedSlice S1 ![0] · slices_S2_S1_0) : C F S2 .i32 → C F S1 .i32),
    reshape main_call1_call0_v4 main_call1_call0_v5 (rfl : (.i32 : EltTy) = .i32) shapeCasts_S1_S_,
    unary main_v36 main_call1_call0_v6 ((extractStridedSlice S1 ![1] · slices_S2_S1_1) : C F S2 .i32 → C F S1 .i32),
    reshape main_call1_call0_v6 main_call1_call0_v7 (rfl : (.i32 : EltTy) = .i32) shapeCasts_S1_S_,
    nullary main_call1_call0_v8 (iotaInDim S4096x512x4x4 64 0),
    nullary main_call1_call0_v9 (iotaInDim S4096x512x4x4 64 1),
    nullary main_call1_call0_v10 (iotaInDim S4096x512x4x4 64 2),
    nullary main_call1_call0_v11 (iotaInDim S4096x512x4x4 64 3),
    nullary main_call1_call0_c (constantI S_ 64 8192#64),
    unary main_call1_call0_c main_call1_call0_v12 ((broadcastInDim S4096x512x4x4 ![] bcast_S_S4096x512x4x4) : C F S_ .i64 → C F S4096x512x4x4 .i64),
    binary main_call1_call0_v12 main_call1_call0_v8 main_call1_call0_v13 (muli : C F S4096x512x4x4 .i64 → C F S4096x512x4x4 .i64 → C F S4096x512x4x4 .i64),
    nullary main_call1_call0_c_0 (constantI S_ 64 16#64),
    unary main_call1_call0_c_0 main_call1_call0_v14 ((broadcastInDim S4096x512x4x4 ![] bcast_S_S4096x512x4x4) : C F S_ .i64 → C F S4096x512x4x4 .i64),
    binary main_call1_call0_v14 main_call1_call0_v9 main_call1_call0_v15 (muli : C F S4096x512x4x4 .i64 → C F S4096x512x4x4 .i64 → C F S4096x512x4x4 .i64),
    nullary main_call1_call0_c_1 (constantI S_ 64 4#64),
    unary main_call1_call0_c_1 main_call1_call0_v16 ((broadcastInDim S4096x512x4x4 ![] bcast_S_S4096x512x4x4) : C F S_ .i64 → C F S4096x512x4x4 .i64),
    binary main_call1_call0_v16 main_call1_call0_v10 main_call1_call0_v17 (muli : C F S4096x512x4x4 .i64 → C F S4096x512x4x4 .i64 → C F S4096x512x4x4 .i64),
    nullary main_call1_call0_c_2 (constantI S_ 64 1#64),
    unary main_call1_call0_c_2 main_call1_call0_v18 ((broadcastInDim S4096x512x4x4 ![] bcast_S_S4096x512x4x4) : C F S_ .i64 → C F S4096x512x4x4 .i64),
    binary main_call1_call0_v18 main_call1_call0_v11 main_call1_call0_v19 (muli : C F S4096x512x4x4 .i64 → C F S4096x512x4x4 .i64 → C F S4096x512x4x4 .i64),
    binary main_call1_call0_v13 main_call1_call0_v15 main_call1_call0_v20 (addi : C F S4096x512x4x4 .i64 → C F S4096x512x4x4 .i64 → C F S4096x512x4x4 .i64),
    binary main_call1_call0_v20 main_call1_call0_v17 main_call1_call0_v21 (addi : C F S4096x512x4x4 .i64 → C F S4096x512x4x4 .i64 → C F S4096x512x4x4 .i64),
    binary main_call1_call0_v21 main_call1_call0_v19 main_call1_call0_v22 (addi : C F S4096x512x4x4 .i64 → C F S4096x512x4x4 .i64 → C F S4096x512x4x4 .i64),
    nullary main_call1_call0_c_3 (constantI S_ 64 32#64),
    unary main_call1_call0_c_3 main_call1_call0_v23 ((broadcastInDim S4096x512x4x4 ![] bcast_S_S4096x512x4x4) : C F S_ .i64 → C F S4096x512x4x4 .i64),
    binary main_call1_call0_v22 main_call1_call0_v23 main_call1_call0_v24 (Host.shrui : C F S4096x512x4x4 .i64 → C F S4096x512x4x4 .i64 → C F S4096x512x4x4 .i64),
    unary main_call1_call0_v22 main_call1_call0_v25 ((trunci 32 · natLt_32_64) : C F S4096x512x4x4 .i64 → C F S4096x512x4x4 .i32),
    unary main_call1_call0_v24 main_call1_call0_v26 ((trunci 32 · natLt_32_64) : C F S4096x512x4x4 .i64 → C F S4096x512x4x4 .i32) ]

/-- The buffers that stretch writes, in order. -/
abbrev opsCW : List (Ref sig .tc) :=
  [ main_c_5, main_c_6, main_v30, main_v31, main_v32, main_c_7, main_v33, main_v34, main_v35, main_v36, main_cst_8, main_call1_cst, main_call1_cst_0, main_call1_call0_v0, main_call1_call0_v1, main_call1_call0_v2, main_call1_call0_v3, main_call1_call0_v4, main_call1_call0_v5, main_call1_call0_v6, main_call1_call0_v7, main_call1_call0_v8, main_call1_call0_v9, main_call1_call0_v10, main_call1_call0_v11, main_call1_call0_c, main_call1_call0_v12, main_call1_call0_v13, main_call1_call0_c_0, main_call1_call0_v14, main_call1_call0_v15, main_call1_call0_c_1, main_call1_call0_v16, main_call1_call0_v17, main_call1_call0_c_2, main_call1_call0_v18, main_call1_call0_v19, main_call1_call0_v20, main_call1_call0_v21, main_call1_call0_v22, main_call1_call0_c_3, main_call1_call0_v23, main_call1_call0_v24, main_call1_call0_v25, main_call1_call0_v26 ]

/-- The buffers that the stretch `opsC` writes, operation by operation. -/
theorem opsC_writes : (opsC : List (HloOp τ sig (Elt F))).map HloOp.writes = opsCW.map fun r => {Proc.devRef .tc r} := rfl

/-- The key schedule and the cipher's initial state. -/
abbrev opsT0 : List (HloOp τ sig (Elt F)) :=
  [ binary main_call1_call0_v5 main_call1_call0_v7 main_call1_call0_call0_v0 (xori : C F S_ .i32 → C F S_ .i32 → C F S_ .i32),
    nullary main_call1_call0_call0_c (constantI S_ 32 466688986#32),
    binary main_call1_call0_call0_v0 main_call1_call0_call0_c main_call1_call0_call0_v1 (xori : C F S_ .i32 → C F S_ .i32 → C F S_ .i32),
    unary main_call1_call0_v5 main_call1_call0_call0_v2 ((broadcastInDim S4096x512x4x4 ![] bcast_S_S4096x512x4x4) : C F S_ .i32 → C F S4096x512x4x4 .i32),
    binary main_call1_call0_v26 main_call1_call0_call0_v2 main_call1_call0_call0_v3 (addi : C F S4096x512x4x4 .i32 → C F S4096x512x4x4 .i32 → C F S4096x512x4x4 .i32),
    unary main_call1_call0_v7 main_call1_call0_call0_v4 ((broadcastInDim S4096x512x4x4 ![] bcast_S_S4096x512x4x4) : C F S_ .i32 → C F S4096x512x4x4 .i32),
    binary main_call1_call0_v25 main_call1_call0_call0_v4 main_call1_call0_call0_v5 (addi : C F S4096x512x4x4 .i32 → C F S4096x512x4x4 .i32 → C F S4096x512x4x4 .i32) ]

/-- The buffers that stretch writes, in order. -/
abbrev opsT0W : List (Ref sig .tc) :=
  [ main_call1_call0_call0_v0, main_call1_call0_call0_c, main_call1_call0_call0_v1, main_call1_call0_call0_v2, main_call1_call0_call0_v3, main_call1_call0_call0_v4, main_call1_call0_call0_v5 ]

/-- The buffers that the stretch `opsT0` writes, operation by operation. -/
theorem opsT0_writes : (opsT0 : List (HloOp τ sig (Elt F))).map HloOp.writes = opsT0W.map fun r => {Proc.devRef .tc r} := rfl

/-- Rounds 1 to 4. -/
abbrev opsT1 : List (HloOp τ sig (Elt F)) :=
  [ binary main_call1_call0_call0_v3 main_call1_call0_call0_v5 main_call1_call0_call0_v6 (addi : C F S4096x512x4x4 .i32 → C F S4096x512x4x4 .i32 → C F S4096x512x4x4 .i32),
    nullary main_call1_call0_call0_c_0 (constantI S_ 32 13#32),
    unary main_call1_call0_call0_c_0 main_call1_call0_call0_v7 ((broadcastInDim S4096x512x4x4 ![] bcast_S_S4096x512x4x4) : C F S_ .i32 → C F S4096x512x4x4 .i32),
    binary main_call1_call0_call0_v5 main_call1_call0_call0_v7 main_call1_call0_call0_v8 (Host.shli : C F S4096x512x4x4 .i32 → C F S4096x512x4x4 .i32 → C F S4096x512x4x4 .i32),
    nullary main_call1_call0_call0_c_1 (constantI S_ 32 19#32),
    unary main_call1_call0_call0_c_1 main_call1_call0_call0_v9 ((broadcastInDim S4096x512x4x4 ![] bcast_S_S4096x512x4x4) : C F S_ .i32 → C F S4096x512x4x4 .i32),
    binary main_call1_call0_call0_v5 main_call1_call0_call0_v9 main_call1_call0_call0_v10 (Host.shrui : C F S4096x512x4x4 .i32 → C F S4096x512x4x4 .i32 → C F S4096x512x4x4 .i32),
    binary main_call1_call0_call0_v8 main_call1_call0_call0_v10 main_call1_call0_call0_v11 (ori : C F S4096x512x4x4 .i32 → C F S4096x512x4x4 .i32 → C F S4096x512x4x4 .i32),
    binary main_call1_call0_call0_v6 main_call1_call0_call0_v11 main_call1_call0_call0_v12 (xori : C F S4096x512x4x4 .i32 → C F S4096x512x4x4 .i32 → C F S4096x512x4x4 .i32),
    binary main_call1_call0_call0_v6 main_call1_call0_call0_v12 main_call1_call0_call0_v13 (addi : C F S4096x512x4x4 .i32 → C F S4096x512x4x4 .i32 → C F S4096x512x4x4 .i32),
    nullary main_call1_call0_call0_c_2 (constantI S_ 32 15#32),
    unary main_call1_call0_call0_c_2 main_call1_call0_call0_v14 ((broadcastInDim S4096x512x4x4 ![] bcast_S_S4096x512x4x4) : C F S_ .i32 → C F S4096x512x4x4 .i32),
    binary main_call1_call0_call0_v12 main_call1_call0_call0_v14 main_call1_call0_call0_v15 (Host.shli : C F S4096x512x4x4 .i32 → C F S4096x512x4x4 .i32 → C F S4096x512x4x4 .i32),
    nullary main_call1_call0_call0_c_3 (constantI S_ 32 17#32),
    unary main_call1_call0_call0_c_3 main_call1_call0_call0_v16 ((broadcastInDim S4096x512x4x4 ![] bcast_S_S4096x512x4x4) : C F S_ .i32 → C F S4096x512x4x4 .i32),
    binary main_call1_call0_call0_v12 main_call1_call0_call0_v16 main_call1_call0_call0_v17 (Host.shrui : C F S4096x512x4x4 .i32 → C F S4096x512x4x4 .i32 → C F S4096x512x4x4 .i32),
    binary main_call1_call0_call0_v15 main_call1_call0_call0_v17 main_call1_call0_call0_v18 (ori : C F S4096x512x4x4 .i32 → C F S4096x512x4x4 .i32 → C F S4096x512x4x4 .i32),
    binary main_call1_call0_call0_v13 main_call1_call0_call0_v18 main_call1_call0_call0_v19 (xori : C F S4096x512x4x4 .i32 → C F S4096x512x4x4 .i32 → C F S4096x512x4x4 .i32),
    binary main_call1_call0_call0_v13 main_call1_call0_call0_v19 main_call1_call0_call0_v20 (addi : C F S4096x512x4x4 .i32 → C F S4096x512x4x4 .i32 → C F S4096x512x4x4 .i32),
    nullary main_call1_call0_call0_c_4 (constantI S_ 32 26#32),
    unary main_call1_call0_call0_c_4 main_call1_call0_call0_v21 ((broadcastInDim S4096x512x4x4 ![] bcast_S_S4096x512x4x4) : C F S_ .i32 → C F S4096x512x4x4 .i32),
    binary main_call1_call0_call0_v19 main_call1_call0_call0_v21 main_call1_call0_call0_v22 (Host.shli : C F S4096x512x4x4 .i32 → C F S4096x512x4x4 .i32 → C F S4096x512x4x4 .i32),
    nullary main_call1_call0_call0_c_5 (constantI S_ 32 6#32),
    unary main_call1_call0_call0_c_5 main_call1_call0_call0_v23 ((broadcastInDim S4096x512x4x4 ![] bcast_S_S4096x512x4x4) : C F S_ .i32 → C F S4096x512x4x4 .i32),
    binary main_call1_call0_call0_v19 main_call1_call0_call0_v23 main_call1_call0_call0_v24 (Host.shrui : C F S4096x512x4x4 .i32 → C F S4096x512x4x4 .i32 → C F S4096x512x4x4 .i32),
    binary main_call1_call0_call0_v22 main_call1_call0_call0_v24 main_call1_call0_call0_v25 (ori : C F S4096x512x4x4 .i32 → C F S4096x512x4x4 .i32 → C F S4096x512x4x4 .i32),
    binary main_call1_call0_call0_v20 main_call1_call0_call0_v25 main_call1_call0_call0_v26 (xori : C F S4096x512x4x4 .i32 → C F S4096x512x4x4 .i32 → C F S4096x512x4x4 .i32),
    binary main_call1_call0_call0_v20 main_call1_call0_call0_v26 main_call1_call0_call0_v27 (addi : C F S4096x512x4x4 .i32 → C F S4096x512x4x4 .i32 → C F S4096x512x4x4 .i32),
    nullary main_call1_call0_call0_c_6 (constantI S_ 32 6#32),
    unary main_call1_call0_call0_c_6 main_call1_call0_call0_v28 ((broadcastInDim S4096x512x4x4 ![] bcast_S_S4096x512x4x4) : C F S_ .i32 → C F S4096x512x4x4 .i32),
    binary main_call1_call0_call0_v26 main_call1_call0_call0_v28 main_call1_call0_call0_v29 (Host.shli : C F S4096x512x4x4 .i32 → C F S4096x512x4x4 .i32 → C F S4096x512x4x4 .i32),
    nullary main_call1_call0_call0_c_7 (constantI S_ 32 26#32),
    unary main_call1_call0_call0_c_7 main_call1_call0_call0_v30 ((broadcastInDim S4096x512x4x4 ![] bcast_S_S4096x512x4x4) : C F S_ .i32 → C F S4096x512x4x4 .i32),
    binary main_call1_call0_call0_v26 main_call1_call0_call0_v30 main_call1_call0_call0_v31 (Host.shrui : C F S4096x512x4x4 .i32 → C F S4096x512x4x4 .i32 → C F S4096x512x4x4 .i32),
    binary main_call1_call0_call0_v29 main_call1_call0_call0_v31 main_call1_call0_call0_v32 (ori : C F S4096x512x4x4 .i32 → C F S4096x512x4x4 .i32 → C F S4096x512x4x4 .i32),
    binary main_call1_call0_call0_v27 main_call1_call0_call0_v32 main_call1_call0_call0_v33 (xori : C F S4096x512x4x4 .i32 → C F S4096x512x4x4 .i32 → C F S4096x512x4x4 .i32),
    unary main_call1_call0_v7 main_call1_call0_call0_v34 ((broadcastInDim S4096x512x4x4 ![] bcast_S_S4096x512x4x4) : C F S_ .i32 → C F S4096x512x4x4 .i32),
    binary main_call1_call0_call0_v27 main_call1_call0_call0_v34 main_call1_call0_call0_v35 (addi : C F S4096x512x4x4 .i32 → C F S4096x512x4x4 .i32 → C F S4096x512x4x4 .i32),
    unary main_call1_call0_call0_v1 main_call1_call0_call0_v36 ((broadcastInDim S4096x512x4x4 ![] bcast_S_S4096x512x4x4) : C F S_ .i32 → C F S4096x512x4x4 .i32),
    binary main_call1_call0_call0_v33 main_call1_call0_call0_v36 main_call1_call0_call0_v37 (addi : C F S4096x512x4x4 .i32 → C F S4096x512x4x4 .i32 → C F S4096x512x4x4 .i32),
    nullary main_call1_call0_call0_c_8 (constantI S_ 32 1#32),
    unary main_call1_call0_call0_c_8 main_call1_call0_call0_v38 ((broadcastInDim S4096x512x4x4 ![] bcast_S_S4096x512x4x4) : C F S_ .i32 → C F S4096x512x4x4 .i32),
    binary main_call1_call0_call0_v37 main_call1_call0_call0_v38 main_call1_call0_call0_v39 (addi : C F S4096x512x4x4 .i32 → C F S4096x512x4x4 .i32 → C F S4096x512x4x4 .i32) ]

/-- The buffers that stretch writes, in order. -/
abbrev opsT1W : List (Ref sig .tc) :=
  [ main_call1_call0_call0_v6, main_call1_call0_call0_c_0, main_call1_call0_call0_v7, main_call1_call0_call0_v8, main_call1_call0_call0_c_1, main_call1_call0_call0_v9, main_call1_call0_call0_v10, main_call1_call0_call0_v11, main_call1_call0_call0_v12, main_call1_call0_call0_v13, main_call1_call0_call0_c_2, main_call1_call0_call0_v14, main_call1_call0_call0_v15, main_call1_call0_call0_c_3, main_call1_call0_call0_v16, main_call1_call0_call0_v17, main_call1_call0_call0_v18, main_call1_call0_call0_v19, main_call1_call0_call0_v20, main_call1_call0_call0_c_4, main_call1_call0_call0_v21, main_call1_call0_call0_v22, main_call1_call0_call0_c_5, main_call1_call0_call0_v23, main_call1_call0_call0_v24, main_call1_call0_call0_v25, main_call1_call0_call0_v26, main_call1_call0_call0_v27, main_call1_call0_call0_c_6, main_call1_call0_call0_v28, main_call1_call0_call0_v29, main_call1_call0_call0_c_7, main_call1_call0_call0_v30, main_call1_call0_call0_v31, main_call1_call0_call0_v32, main_call1_call0_call0_v33, main_call1_call0_call0_v34, main_call1_call0_call0_v35, main_call1_call0_call0_v36, main_call1_call0_call0_v37, main_call1_call0_call0_c_8, main_call1_call0_call0_v38, main_call1_call0_call0_v39 ]

/-- The buffers that the stretch `opsT1` writes, operation by operation. -/
theorem opsT1_writes : (opsT1 : List (HloOp τ sig (Elt F))).map HloOp.writes = opsT1W.map fun r => {Proc.devRef .tc r} := rfl

/-- Rounds 5 to 8. -/
abbrev opsT2 : List (HloOp τ sig (Elt F)) :=
  [ binary main_call1_call0_call0_v35 main_call1_call0_call0_v39 main_call1_call0_call0_v40 (addi : C F S4096x512x4x4 .i32 → C F S4096x512x4x4 .i32 → C F S4096x512x4x4 .i32),
    nullary main_call1_call0_call0_c_9 (constantI S_ 32 17#32),
    unary main_call1_call0_call0_c_9 main_call1_call0_call0_v41 ((broadcastInDim S4096x512x4x4 ![] bcast_S_S4096x512x4x4) : C F S_ .i32 → C F S4096x512x4x4 .i32),
    binary main_call1_call0_call0_v39 main_call1_call0_call0_v41 main_call1_call0_call0_v42 (Host.shli : C F S4096x512x4x4 .i32 → C F S4096x512x4x4 .i32 → C F S4096x512x4x4 .i32),
    nullary main_call1_call0_call0_c_10 (constantI S_ 32 15#32),
    unary main_call1_call0_call0_c_10 main_call1_call0_call0_v43 ((broadcastInDim S4096x512x4x4 ![] bcast_S_S4096x512x4x4) : C F S_ .i32 → C F S4096x512x4x4 .i32),
    binary main_call1_call0_call0_v39 main_call1_call0_call0_v43 main_call1_call0_call0_v44 (Host.shrui : C F S4096x512x4x4 .i32 → C F S4096x512x4x4 .i32 → C F S4096x512x4x4 .i32),
    binary main_call1_call0_call0_v42 main_call1_call0_call0_v44 main_call1_call0_call0_v45 (ori : C F S4096x512x4x4 .i32 → C F S4096x512x4x4 .i32 → C F S4096x512x4x4 .i32),
    binary main_call1_call0_call0_v40 main_call1_call0_call0_v45 main_call1_call0_call0_v46 (xori : C F S4096x512x4x4 .i32 → C F S4096x512x4x4 .i32 → C F S4096x512x4x4 .i32),
    binary main_call1_call0_call0_v40 main_call1_call0_call0_v46 main_call1_call0_call0_v47 (addi : C F S4096x512x4x4 .i32 → C F S4096x512x4x4 .i32 → C F S4096x512x4x4 .i32),
    nullary main_call1_call0_call0_c_11 (constantI S_ 32 29#32),
    unary main_call1_call0_call0_c_11 main_call1_call0_call0_v48 ((broadcastInDim S4096x512x4x4 ![] bcast_S_S4096x512x4x4) : C F S_ .i32 → C F S4096x512x4x4 .i32),
    binary main_call1_call0_call0_v46 main_call1_call0_call0_v48 main_call1_call0_call0_v49 (Host.shli : C F S4096x512x4x4 .i32 → C F S4096x512x4x4 .i32 → C F S4096x512x4x4 .i32),
    nullary main_call1_call0_call0_c_12 (constantI S_ 32 3#32),
    unary main_call1_call0_call0_c_12 main_call1_call0_call0_v50 ((broadcastInDim S4096x512x4x4 ![] bcast_S_S4096x512x4x4) : C F S_ .i32 → C F S4096x512x4x4 .i32),
    binary main_call1_call0_call0_v46 main_call1_call0_call0_v50 main_call1_call0_call0_v51 (Host.shrui : C F S4096x512x4x4 .i32 → C F S4096x512x4x4 .i32 → C F S4096x512x4x4 .i32),
    binary main_call1_call0_call0_v49 main_call1_call0_call0_v51 main_call1_call0_call0_v52 (ori : C F S4096x512x4x4 .i32 → C F S4096x512x4x4 .i32 → C F S4096x512x4x4 .i32),
    binary main_call1_call0_call0_v47 main_call1_call0_call0_v52 main_call1_call0_call0_v53 (xori : C F S4096x512x4x4 .i32 → C F S4096x512x4x4 .i32 → C F S4096x512x4x4 .i32),
    binary main_call1_call0_call0_v47 main_call1_call0_call0_v53 main_call1_call0_call0_v54 (addi : C F S4096x512x4x4 .i32 → C F S4096x512x4x4 .i32 → C F S4096x512x4x4 .i32),
    nullary main_call1_call0_call0_c_13 (constantI S_ 32 16#32),
    unary main_call1_call0_call0_c_13 main_call1_call0_call0_v55 ((broadcastInDim S4096x512x4x4 ![] bcast_S_S4096x512x4x4) : C F S_ .i32 → C F S4096x512x4x4 .i32),
    binary main_call1_call0_call0_v53 main_call1_call0_call0_v55 main_call1_call0_call0_v56 (Host.shli : C F S4096x512x4x4 .i32 → C F S4096x512x4x4 .i32 → C F S4096x512x4x4 .i32),
    nullary main_call1_call0_call0_c_14 (constantI S_ 32 16#32),
    unary main_call1_call0_call0_c_14 main_call1_call0_call0_v57 ((broadcastInDim S4096x512x4x4 ![] bcast_S_S4096x512x4x4) : C F S_ .i32 → C F S4096x512x4x4 .i32),
    binary main_call1_call0_call0_v53 main_call1_call0_call0_v57 main_call1_call0_call0_v58 (Host.shrui : C F S4096x512x4x4 .i32 → C F S4096x512x4x4 .i32 → C F S4096x512x4x4 .i32),
    binary main_call1_call0_call0_v56 main_call1_call0_call0_v58 main_call1_call0_call0_v59 (ori : C F S4096x512x4x4 .i32 → C F S4096x512x4x4 .i32 → C F S4096x512x4x4 .i32),
    binary main_call1_call0_call0_v54 main_call1_call0_call0_v59 main_call1_call0_call0_v60 (xori : C F S4096x512x4x4 .i32 → C F S4096x512x4x4 .i32 → C F S4096x512x4x4 .i32),
    binary main_call1_call0_call0_v54 main_call1_call0_call0_v60 main_call1_call0_call0_v61 (addi : C F S4096x512x4x4 .i32 → C F S4096x512x4x4 .i32 → C F S4096x512x4x4 .i32),
    nullary main_call1_call0_call0_c_15 (constantI S_ 32 24#32),
    unary main_call1_call0_call0_c_15 main_call1_call0_call0_v62 ((broadcastInDim S4096x512x4x4 ![] bcast_S_S4096x512x4x4) : C F S_ .i32 → C F S4096x512x4x4 .i32),
    binary main_call1_call0_call0_v60 main_call1_call0_call0_v62 main_call1_call0_call0_v63 (Host.shli : C F S4096x512x4x4 .i32 → C F S4096x512x4x4 .i32 → C F S4096x512x4x4 .i32),
    nullary main_call1_call0_call0_c_16 (constantI S_ 32 8#32),
    unary main_call1_call0_call0_c_16 main_call1_call0_call0_v64 ((broadcastInDim S4096x512x4x4 ![] bcast_S_S4096x512x4x4) : C F S_ .i32 → C F S4096x512x4x4 .i32),
    binary main_call1_call0_call0_v60 main_call1_call0_call0_v64 main_call1_call0_call0_v65 (Host.shrui : C F S4096x512x4x4 .i32 → C F S4096x512x4x4 .i32 → C F S4096x512x4x4 .i32),
    binary main_call1_call0_call0_v63 main_call1_call0_call0_v65 main_call1_call0_call0_v66 (ori : C F S4096x512x4x4 .i32 → C F S4096x512x4x4 .i32 → C F S4096x512x4x4 .i32),
    binary main_call1_call0_call0_v61 main_call1_call0_call0_v66 main_call1_call0_call0_v67 (xori : C F S4096x512x4x4 .i32 → C F S4096x512x4x4 .i32 → C F S4096x512x4x4 .i32),
    unary main_call1_call0_call0_v1 main_call1_call0_call0_v68 ((broadcastInDim S4096x512x4x4 ![] bcast_S_S4096x512x4x4) : C F S_ .i32 → C F S4096x512x4x4 .i32),
    binary main_call1_call0_call0_v61 main_call1_call0_call0_v68 main_call1_call0_call0_v69 (addi : C F S4096x512x4x4 .i32 → C F S4096x512x4x4 .i32 → C F S4096x512x4x4 .i32),
    unary main_call1_call0_v5 main_call1_call0_call0_v70 ((broadcastInDim S4096x512x4x4 ![] bcast_S_S4096x512x4x4) : C F S_ .i32 → C F S4096x512x4x4 .i32),
    binary main_call1_call0_call0_v67 main_call1_call0_call0_v70 main_call1_call0_call0_v71 (addi : C F S4096x512x4x4 .i32 → C F S4096x512x4x4 .i32 → C F S4096x512x4x4 .i32),
    nullary main_call1_call0_call0_c_17 (constantI S_ 32 2#32),
    unary main_call1_call0_call0_c_17 main_call1_call0_call0_v72 ((broadcastInDim S4096x512x4x4 ![] bcast_S_S4096x512x4x4) : C F S_ .i32 → C F S4096x512x4x4 .i32),
    binary main_call1_call0_call0_v71 main_call1_call0_call0_v72 main_call1_call0_call0_v73 (addi : C F S4096x512x4x4 .i32 → C F S4096x512x4x4 .i32 → C F S4096x512x4x4 .i32) ]

/-- The buffers that stretch writes, in order. -/
abbrev opsT2W : List (Ref sig .tc) :=
  [ main_call1_call0_call0_v40, main_call1_call0_call0_c_9, main_call1_call0_call0_v41, main_call1_call0_call0_v42, main_call1_call0_call0_c_10, main_call1_call0_call0_v43, main_call1_call0_call0_v44, main_call1_call0_call0_v45, main_call1_call0_call0_v46, main_call1_call0_call0_v47, main_call1_call0_call0_c_11, main_call1_call0_call0_v48, main_call1_call0_call0_v49, main_call1_call0_call0_c_12, main_call1_call0_call0_v50, main_call1_call0_call0_v51, main_call1_call0_call0_v52, main_call1_call0_call0_v53, main_call1_call0_call0_v54, main_call1_call0_call0_c_13, main_call1_call0_call0_v55, main_call1_call0_call0_v56, main_call1_call0_call0_c_14, main_call1_call0_call0_v57, main_call1_call0_call0_v58, main_call1_call0_call0_v59, main_call1_call0_call0_v60, main_call1_call0_call0_v61, main_call1_call0_call0_c_15, main_call1_call0_call0_v62, main_call1_call0_call0_v63, main_call1_call0_call0_c_16, main_call1_call0_call0_v64, main_call1_call0_call0_v65, main_call1_call0_call0_v66, main_call1_call0_call0_v67, main_call1_call0_call0_v68, main_call1_call0_call0_v69, main_call1_call0_call0_v70, main_call1_call0_call0_v71, main_call1_call0_call0_c_17, main_call1_call0_call0_v72, main_call1_call0_call0_v73 ]

/-- The buffers that the stretch `opsT2` writes, operation by operation. -/
theorem opsT2_writes : (opsT2 : List (HloOp τ sig (Elt F))).map HloOp.writes = opsT2W.map fun r => {Proc.devRef .tc r} := rfl

/-- Rounds 9 to 12. -/
abbrev opsT3 : List (HloOp τ sig (Elt F)) :=
  [ binary main_call1_call0_call0_v69 main_call1_call0_call0_v73 main_call1_call0_call0_v74 (addi : C F S4096x512x4x4 .i32 → C F S4096x512x4x4 .i32 → C F S4096x512x4x4 .i32),
    nullary main_call1_call0_call0_c_18 (constantI S_ 32 13#32),
    unary main_call1_call0_call0_c_18 main_call1_call0_call0_v75 ((broadcastInDim S4096x512x4x4 ![] bcast_S_S4096x512x4x4) : C F S_ .i32 → C F S4096x512x4x4 .i32),
    binary main_call1_call0_call0_v73 main_call1_call0_call0_v75 main_call1_call0_call0_v76 (Host.shli : C F S4096x512x4x4 .i32 → C F S4096x512x4x4 .i32 → C F S4096x512x4x4 .i32),
    nullary main_call1_call0_call0_c_19 (constantI S_ 32 19#32),
    unary main_call1_call0_call0_c_19 main_call1_call0_call0_v77 ((broadcastInDim S4096x512x4x4 ![] bcast_S_S4096x512x4x4) : C F S_ .i32 → C F S4096x512x4x4 .i32),
    binary main_call1_call0_call0_v73 main_call1_call0_call0_v77 main_call1_call0_call0_v78 (Host.shrui : C F S4096x512x4x4 .i32 → C F S4096x512x4x4 .i32 → C F S4096x512x4x4 .i32),
    binary main_call1_call0_call0_v76 main_call1_call0_call0_v78 main_call1_call0_call0_v79 (ori : C F S4096x512x4x4 .i32 → C F S4096x512x4x4 .i32 → C F S4096x512x4x4 .i32),
    binary main_call1_call0_call0_v74 main_call1_call0_call0_v79 main_call1_call0_call0_v80 (xori : C F S4096x512x4x4 .i32 → C F S4096x512x4x4 .i32 → C F S4096x512x4x4 .i32),
    binary main_call1_call0_call0_v74 main_call1_call0_call0_v80 main_call1_call0_call0_v81 (addi : C F S4096x512x4x4 .i32 → C F S4096x512x4x4 .i32 → C F S4096x512x4x4 .i32),
    nullary main_call1_call0_call0_c_20 (constantI S_ 32 15#32),
    unary main_call1_call0_call0_c_20 main_call1_call0_call0_v82 ((broadcastInDim S4096x512x4x4 ![] bcast_S_S4096x512x4x4) : C F S_ .i32 → C F S4096x512x4x4 .i32),
    binary main_call1_call0_call0_v80 main_call1_call0_call0_v82 main_call1_call0_call0_v83 (Host.shli : C F S4096x512x4x4 .i32 → C F S4096x512x4x4 .i32 → C F S4096x512x4x4 .i32),
    nullary main_call1_call0_call0_c_21 (constantI S_ 32 17#32),
    unary main_call1_call0_call0_c_21 main_call1_call0_call0_v84 ((broadcastInDim S4096x512x4x4 ![] bcast_S_S4096x512x4x4) : C F S_ .i32 → C F S4096x512x4x4 .i32),
    binary main_call1_call0_call0_v80 main_call1_call0_call0_v84 main_call1_call0_call0_v85 (Host.shrui : C F S4096x512x4x4 .i32 → C F S4096x512x4x4 .i32 → C F S4096x512x4x4 .i32),
    binary main_call1_call0_call0_v83 main_call1_call0_call0_v85 main_call1_call0_call0_v86 (ori : C F S4096x512x4x4 .i32 → C F S4096x512x4x4 .i32 → C F S4096x512x4x4 .i32),
    binary main_call1_call0_call0_v81 main_call1_call0_call0_v86 main_call1_call0_call0_v87 (xori : C F S4096x512x4x4 .i32 → C F S4096x512x4x4 .i32 → C F S4096x512x4x4 .i32),
    binary main_call1_call0_call0_v81 main_call1_call0_call0_v87 main_call1_call0_call0_v88 (addi : C F S4096x512x4x4 .i32 → C F S4096x512x4x4 .i32 → C F S4096x512x4x4 .i32),
    nullary main_call1_call0_call0_c_22 (constantI S_ 32 26#32),
    unary main_call1_call0_call0_c_22 main_call1_call0_call0_v89 ((broadcastInDim S4096x512x4x4 ![] bcast_S_S4096x512x4x4) : C F S_ .i32 → C F S4096x512x4x4 .i32),
    binary main_call1_call0_call0_v87 main_call1_call0_call0_v89 main_call1_call0_call0_v90 (Host.shli : C F S4096x512x4x4 .i32 → C F S4096x512x4x4 .i32 → C F S4096x512x4x4 .i32),
    nullary main_call1_call0_call0_c_23 (constantI S_ 32 6#32),
    unary main_call1_call0_call0_c_23 main_call1_call0_call0_v91 ((broadcastInDim S4096x512x4x4 ![] bcast_S_S4096x512x4x4) : C F S_ .i32 → C F S4096x512x4x4 .i32),
    binary main_call1_call0_call0_v87 main_call1_call0_call0_v91 main_call1_call0_call0_v92 (Host.shrui : C F S4096x512x4x4 .i32 → C F S4096x512x4x4 .i32 → C F S4096x512x4x4 .i32),
    binary main_call1_call0_call0_v90 main_call1_call0_call0_v92 main_call1_call0_call0_v93 (ori : C F S4096x512x4x4 .i32 → C F S4096x512x4x4 .i32 → C F S4096x512x4x4 .i32),
    binary main_call1_call0_call0_v88 main_call1_call0_call0_v93 main_call1_call0_call0_v94 (xori : C F S4096x512x4x4 .i32 → C F S4096x512x4x4 .i32 → C F S4096x512x4x4 .i32),
    binary main_call1_call0_call0_v88 main_call1_call0_call0_v94 main_call1_call0_call0_v95 (addi : C F S4096x512x4x4 .i32 → C F S4096x512x4x4 .i32 → C F S4096x512x4x4 .i32),
    nullary main_call1_call0_call0_c_24 (constantI S_ 32 6#32),
    unary main_call1_call0_call0_c_24 main_call1_call0_call0_v96 ((broadcastInDim S4096x512x4x4 ![] bcast_S_S4096x512x4x4) : C F S_ .i32 → C F S4096x512x4x4 .i32),
    binary main_call1_call0_call0_v94 main_call1_call0_call0_v96 main_call1_call0_call0_v97 (Host.shli : C F S4096x512x4x4 .i32 → C F S4096x512x4x4 .i32 → C F S4096x512x4x4 .i32),
    nullary main_call1_call0_call0_c_25 (constantI S_ 32 26#32),
    unary main_call1_call0_call0_c_25 main_call1_call0_call0_v98 ((broadcastInDim S4096x512x4x4 ![] bcast_S_S4096x512x4x4) : C F S_ .i32 → C F S4096x512x4x4 .i32),
    binary main_call1_call0_call0_v94 main_call1_call0_call0_v98 main_call1_call0_call0_v99 (Host.shrui : C F S4096x512x4x4 .i32 → C F S4096x512x4x4 .i32 → C F S4096x512x4x4 .i32),
    binary main_call1_call0_call0_v97 main_call1_call0_call0_v99 main_call1_call0_call0_v100 (ori : C F S4096x512x4x4 .i32 → C F S4096x512x4x4 .i32 → C F S4096x512x4x4 .i32),
    binary main_call1_call0_call0_v95 main_call1_call0_call0_v100 main_call1_call0_call0_v101 (xori : C F S4096x512x4x4 .i32 → C F S4096x512x4x4 .i32 → C F S4096x512x4x4 .i32),
    unary main_call1_call0_v5 main_call1_call0_call0_v102 ((broadcastInDim S4096x512x4x4 ![] bcast_S_S4096x512x4x4) : C F S_ .i32 → C F S4096x512x4x4 .i32),
    binary main_call1_call0_call0_v95 main_call1_call0_call0_v102 main_call1_call0_call0_v103 (addi : C F S4096x512x4x4 .i32 → C F S4096x512x4x4 .i32 → C F S4096x512x4x4 .i32),
    unary main_call1_call0_v7 main_call1_call0_call0_v104 ((broadcastInDim S4096x512x4x4 ![] bcast_S_S4096x512x4x4) : C F S_ .i32 → C F S4096x512x4x4 .i32),
    binary main_call1_call0_call0_v101 main_call1_call0_call0_v104 main_call1_call0_call0_v105 (addi : C F S4096x512x4x4 .i32 → C F S4096x512x4x4 .i32 → C F S4096x512x4x4 .i32),
    nullary main_call1_call0_call0_c_26 (constantI S_ 32 3#32),
    unary main_call1_call0_call0_c_26 main_call1_call0_call0_v106 ((broadcastInDim S4096x512x4x4 ![] bcast_S_S4096x512x4x4) : C F S_ .i32 → C F S4096x512x4x4 .i32),
    binary main_call1_call0_call0_v105 main_call1_call0_call0_v106 main_call1_call0_call0_v107 (addi : C F S4096x512x4x4 .i32 → C F S4096x512x4x4 .i32 → C F S4096x512x4x4 .i32) ]

/-- The buffers that stretch writes, in order. -/
abbrev opsT3W : List (Ref sig .tc) :=
  [ main_call1_call0_call0_v74, main_call1_call0_call0_c_18, main_call1_call0_call0_v75, main_call1_call0_call0_v76, main_call1_call0_call0_c_19, main_call1_call0_call0_v77, main_call1_call0_call0_v78, main_call1_call0_call0_v79, main_call1_call0_call0_v80, main_call1_call0_call0_v81, main_call1_call0_call0_c_20, main_call1_call0_call0_v82, main_call1_call0_call0_v83, main_call1_call0_call0_c_21, main_call1_call0_call0_v84, main_call1_call0_call0_v85, main_call1_call0_call0_v86, main_call1_call0_call0_v87, main_call1_call0_call0_v88, main_call1_call0_call0_c_22, main_call1_call0_call0_v89, main_call1_call0_call0_v90, main_call1_call0_call0_c_23, main_call1_call0_call0_v91, main_call1_call0_call0_v92, main_call1_call0_call0_v93, main_call1_call0_call0_v94, main_call1_call0_call0_v95, main_call1_call0_call0_c_24, main_call1_call0_call0_v96, main_call1_call0_call0_v97, main_call1_call0_call0_c_25, main_call1_call0_call0_v98, main_call1_call0_call0_v99, main_call1_call0_call0_v100, main_call1_call0_call0_v101, main_call1_call0_call0_v102, main_call1_call0_call0_v103, main_call1_call0_call0_v104, main_call1_call0_call0_v105, main_call1_call0_call0_c_26, main_call1_call0_call0_v106, main_call1_call0_call0_v107 ]

/-- The buffers that the stretch `opsT3` writes, operation by operation. -/
theorem opsT3_writes : (opsT3 : List (HloOp τ sig (Elt F))).map HloOp.writes = opsT3W.map fun r => {Proc.devRef .tc r} := rfl

/-- Rounds 13 to 16. -/
abbrev opsT4 : List (HloOp τ sig (Elt F)) :=
  [ binary main_call1_call0_call0_v103 main_call1_call0_call0_v107 main_call1_call0_call0_v108 (addi : C F S4096x512x4x4 .i32 → C F S4096x512x4x4 .i32 → C F S4096x512x4x4 .i32),
    nullary main_call1_call0_call0_c_27 (constantI S_ 32 17#32),
    unary main_call1_call0_call0_c_27 main_call1_call0_call0_v109 ((broadcastInDim S4096x512x4x4 ![] bcast_S_S4096x512x4x4) : C F S_ .i32 → C F S4096x512x4x4 .i32),
    binary main_call1_call0_call0_v107 main_call1_call0_call0_v109 main_call1_call0_call0_v110 (Host.shli : C F S4096x512x4x4 .i32 → C F S4096x512x4x4 .i32 → C F S4096x512x4x4 .i32),
    nullary main_call1_call0_call0_c_28 (constantI S_ 32 15#32),
    unary main_call1_call0_call0_c_28 main_call1_call0_call0_v111 ((broadcastInDim S4096x512x4x4 ![] bcast_S_S4096x512x4x4) : C F S_ .i32 → C F S4096x512x4x4 .i32),
    binary main_call1_call0_call0_v107 main_call1_call0_call0_v111 main_call1_call0_call0_v112 (Host.shrui : C F S4096x512x4x4 .i32 → C F S4096x512x4x4 .i32 → C F S4096x512x4x4 .i32),
    binary main_call1_call0_call0_v110 main_call1_call0_call0_v112 main_call1_call0_call0_v113 (ori : C F S4096x512x4x4 .i32 → C F S4096x512x4x4 .i32 → C F S4096x512x4x4 .i32),
    binary main_call1_call0_call0_v108 main_call1_call0_call0_v113 main_call1_call0_call0_v114 (xori : C F S4096x512x4x4 .i32 → C F S4096x512x4x4 .i32 → C F S4096x512x4x4 .i32),
    binary main_call1_call0_call0_v108 main_call1_call0_call0_v114 main_call1_call0_call0_v115 (addi : C F S4096x512x4x4 .i32 → C F S4096x512x4x4 .i32 → C F S4096x512x4x4 .i32),
    nullary main_call1_call0_call0_c_29 (constantI S_ 32 29#32),
    unary main_call1_call0_call0_c_29 main_call1_call0_call0_v116 ((broadcastInDim S4096x512x4x4 ![] bcast_S_S4096x512x4x4) : C F S_ .i32 → C F S4096x512x4x4 .i32),
    binary main_call1_call0_call0_v114 main_call1_call0_call0_v116 main_call1_call0_call0_v117 (Host.shli : C F S4096x512x4x4 .i32 → C F S4096x512x4x4 .i32 → C F S4096x512x4x4 .i32),
    nullary main_call1_call0_call0_c_30 (constantI S_ 32 3#32),
    unary main_call1_call0_call0_c_30 main_call1_call0_call0_v118 ((broadcastInDim S4096x512x4x4 ![] bcast_S_S4096x512x4x4) : C F S_ .i32 → C F S4096x512x4x4 .i32),
    binary main_call1_call0_call0_v114 main_call1_call0_call0_v118 main_call1_call0_call0_v119 (Host.shrui : C F S4096x512x4x4 .i32 → C F S4096x512x4x4 .i32 → C F S4096x512x4x4 .i32),
    binary main_call1_call0_call0_v117 main_call1_call0_call0_v119 main_call1_call0_call0_v120 (ori : C F S4096x512x4x4 .i32 → C F S4096x512x4x4 .i32 → C F S4096x512x4x4 .i32),
    binary main_call1_call0_call0_v115 main_call1_call0_call0_v120 main_call1_call0_call0_v121 (xori : C F S4096x512x4x4 .i32 → C F S4096x512x4x4 .i32 → C F S4096x512x4x4 .i32),
    binary main_call1_call0_call0_v115 main_call1_call0_call0_v121 main_call1_call0_call0_v122 (addi : C F S4096x512x4x4 .i32 → C F S4096x512x4x4 .i32 → C F S4096x512x4x4 .i32),
    nullary main_call1_call0_call0_c_31 (constantI S_ 32 16#32),
    unary main_call1_call0_call0_c_31 main_call1_call0_call0_v123 ((broadcastInDim S4096x512x4x4 ![] bcast_S_S4096x512x4x4) : C F S_ .i32 → C F S4096x512x4x4 .i32),
    binary main_call1_call0_call0_v121 main_call1_call0_call0_v123 main_call1_call0_call0_v124 (Host.shli : C F S4096x512x4x4 .i32 → C F S4096x512x4x4 .i32 → C F S4096x512x4x4 .i32),
    nullary main_call1_call0_call0_c_32 (constantI S_ 32 16#32),
    unary main_call1_call0_call0_c_32 main_call1_call0_call0_v125 ((broadcastInDim S4096x512x4x4 ![] bcast_S_S4096x512x4x4) : C F S_ .i32 → C F S4096x512x4x4 .i32),
    binary main_call1_call0_call0_v121 main_call1_call0_call0_v125 main_call1_call0_call0_v126 (Host.shrui : C F S4096x512x4x4 .i32 → C F S4096x512x4x4 .i32 → C F S4096x512x4x4 .i32),
    binary main_call1_call0_call0_v124 main_call1_call0_call0_v126 main_call1_call0_call0_v127 (ori : C F S4096x512x4x4 .i32 → C F S4096x512x4x4 .i32 → C F S4096x512x4x4 .i32),
    binary main_call1_call0_call0_v122 main_call1_call0_call0_v127 main_call1_call0_call0_v128 (xori : C F S4096x512x4x4 .i32 → C F S4096x512x4x4 .i32 → C F S4096x512x4x4 .i32),
    binary main_call1_call0_call0_v122 main_call1_call0_call0_v128 main_call1_call0_call0_v129 (addi : C F S4096x512x4x4 .i32 → C F S4096x512x4x4 .i32 → C F S4096x512x4x4 .i32),
    nullary main_call1_call0_call0_c_33 (constantI S_ 32 24#32),
    unary main_call1_call0_call0_c_33 main_call1_call0_call0_v130 ((broadcastInDim S4096x512x4x4 ![] bcast_S_S4096x512x4x4) : C F S_ .i32 → C F S4096x512x4x4 .i32),
    binary main_call1_call0_call0_v128 main_call1_call0_call0_v130 main_call1_call0_call0_v131 (Host.shli : C F S4096x512x4x4 .i32 → C F S4096x512x4x4 .i32 → C F S4096x512x4x4 .i32),
    nullary main_call1_call0_call0_c_34 (constantI S_ 32 8#32),
    unary main_call1_call0_call0_c_34 main_call1_call0_call0_v132 ((broadcastInDim S4096x512x4x4 ![] bcast_S_S4096x512x4x4) : C F S_ .i32 → C F S4096x512x4x4 .i32),
    binary main_call1_call0_call0_v128 main_call1_call0_call0_v132 main_call1_call0_call0_v133 (Host.shrui : C F S4096x512x4x4 .i32 → C F S4096x512x4x4 .i32 → C F S4096x512x4x4 .i32),
    binary main_call1_call0_call0_v131 main_call1_call0_call0_v133 main_call1_call0_call0_v134 (ori : C F S4096x512x4x4 .i32 → C F S4096x512x4x4 .i32 → C F S4096x512x4x4 .i32),
    binary main_call1_call0_call0_v129 main_call1_call0_call0_v134 main_call1_call0_call0_v135 (xori : C F S4096x512x4x4 .i32 → C F S4096x512x4x4 .i32 → C F S4096x512x4x4 .i32),
    unary main_call1_call0_v7 main_call1_call0_call0_v136 ((broadcastInDim S4096x512x4x4 ![] bcast_S_S4096x512x4x4) : C F S_ .i32 → C F S4096x512x4x4 .i32),
    binary main_call1_call0_call0_v129 main_call1_call0_call0_v136 main_call1_call0_call0_v137 (addi : C F S4096x512x4x4 .i32 → C F S4096x512x4x4 .i32 → C F S4096x512x4x4 .i32),
    unary main_call1_call0_call0_v1 main_call1_call0_call0_v138 ((broadcastInDim S4096x512x4x4 ![] bcast_S_S4096x512x4x4) : C F S_ .i32 → C F S4096x512x4x4 .i32),
    binary main_call1_call0_call0_v135 main_call1_call0_call0_v138 main_call1_call0_call0_v139 (addi : C F S4096x512x4x4 .i32 → C F S4096x512x4x4 .i32 → C F S4096x512x4x4 .i32),
    nullary main_call1_call0_call0_c_35 (constantI S_ 32 4#32),
    unary main_call1_call0_call0_c_35 main_call1_call0_call0_v140 ((broadcastInDim S4096x512x4x4 ![] bcast_S_S4096x512x4x4) : C F S_ .i32 → C F S4096x512x4x4 .i32),
    binary main_call1_call0_call0_v139 main_call1_call0_call0_v140 main_call1_call0_call0_v141 (addi : C F S4096x512x4x4 .i32 → C F S4096x512x4x4 .i32 → C F S4096x512x4x4 .i32) ]

/-- The buffers that stretch writes, in order. -/
abbrev opsT4W : List (Ref sig .tc) :=
  [ main_call1_call0_call0_v108, main_call1_call0_call0_c_27, main_call1_call0_call0_v109, main_call1_call0_call0_v110, main_call1_call0_call0_c_28, main_call1_call0_call0_v111, main_call1_call0_call0_v112, main_call1_call0_call0_v113, main_call1_call0_call0_v114, main_call1_call0_call0_v115, main_call1_call0_call0_c_29, main_call1_call0_call0_v116, main_call1_call0_call0_v117, main_call1_call0_call0_c_30, main_call1_call0_call0_v118, main_call1_call0_call0_v119, main_call1_call0_call0_v120, main_call1_call0_call0_v121, main_call1_call0_call0_v122, main_call1_call0_call0_c_31, main_call1_call0_call0_v123, main_call1_call0_call0_v124, main_call1_call0_call0_c_32, main_call1_call0_call0_v125, main_call1_call0_call0_v126, main_call1_call0_call0_v127, main_call1_call0_call0_v128, main_call1_call0_call0_v129, main_call1_call0_call0_c_33, main_call1_call0_call0_v130, main_call1_call0_call0_v131, main_call1_call0_call0_c_34, main_call1_call0_call0_v132, main_call1_call0_call0_v133, main_call1_call0_call0_v134, main_call1_call0_call0_v135, main_call1_call0_call0_v136, main_call1_call0_call0_v137, main_call1_call0_call0_v138, main_call1_call0_call0_v139, main_call1_call0_call0_c_35, main_call1_call0_call0_v140, main_call1_call0_call0_v141 ]

/-- The buffers that the stretch `opsT4` writes, operation by operation. -/
theorem opsT4_writes : (opsT4 : List (HloOp τ sig (Elt F))).map HloOp.writes = opsT4W.map fun r => {Proc.devRef .tc r} := rfl

/-- Rounds 17 to 20. -/
abbrev opsT5 : List (HloOp τ sig (Elt F)) :=
  [ binary main_call1_call0_call0_v137 main_call1_call0_call0_v141 main_call1_call0_call0_v142 (addi : C F S4096x512x4x4 .i32 → C F S4096x512x4x4 .i32 → C F S4096x512x4x4 .i32),
    nullary main_call1_call0_call0_c_36 (constantI S_ 32 13#32),
    unary main_call1_call0_call0_c_36 main_call1_call0_call0_v143 ((broadcastInDim S4096x512x4x4 ![] bcast_S_S4096x512x4x4) : C F S_ .i32 → C F S4096x512x4x4 .i32),
    binary main_call1_call0_call0_v141 main_call1_call0_call0_v143 main_call1_call0_call0_v144 (Host.shli : C F S4096x512x4x4 .i32 → C F S4096x512x4x4 .i32 → C F S4096x512x4x4 .i32),
    nullary main_call1_call0_call0_c_37 (constantI S_ 32 19#32),
    unary main_call1_call0_call0_c_37 main_call1_call0_call0_v145 ((broadcastInDim S4096x512x4x4 ![] bcast_S_S4096x512x4x4) : C F S_ .i32 → C F S4096x512x4x4 .i32),
    binary main_call1_call0_call0_v141 main_call1_call0_call0_v145 main_call1_call0_call0_v146 (Host.shrui : C F S4096x512x4x4 .i32 → C F S4096x512x4x4 .i32 → C F S4096x512x4x4 .i32),
    binary main_call1_call0_call0_v144 main_call1_call0_call0_v146 main_call1_call0_call0_v147 (ori : C F S4096x512x4x4 .i32 → C F S4096x512x4x4 .i32 → C F S4096x512x4x4 .i32),
    binary main_call1_call0_call0_v142 main_call1_call0_call0_v147 main_call1_call0_call0_v148 (xori : C F S4096x512x4x4 .i32 → C F S4096x512x4x4 .i32 → C F S4096x512x4x4 .i32),
    binary main_call1_call0_call0_v142 main_call1_call0_call0_v148 main_call1_call0_call0_v149 (addi : C F S4096x512x4x4 .i32 → C F S4096x512x4x4 .i32 → C F S4096x512x4x4 .i32),
    nullary main_call1_call0_call0_c_38 (constantI S_ 32 15#32),
    unary main_call1_call0_call0_c_38 main_call1_call0_call0_v150 ((broadcastInDim S4096x512x4x4 ![] bcast_S_S4096x512x4x4) : C F S_ .i32 → C F S4096x512x4x4 .i32),
    binary main_call1_call0_call0_v148 main_call1_call0_call0_v150 main_call1_call0_call0_v151 (Host.shli : C F S4096x512x4x4 .i32 → C F S4096x512x4x4 .i32 → C F S4096x512x4x4 .i32),
    nullary main_call1_call0_call0_c_39 (constantI S_ 32 17#32),
    unary main_call1_call0_call0_c_39 main_call1_call0_call0_v152 ((broadcastInDim S4096x512x4x4 ![] bcast_S_S4096x512x4x4) : C F S_ .i32 → C F S4096x512x4x4 .i32),
    binary main_call1_call0_call0_v148 main_call1_call0_call0_v152 main_call1_call0_call0_v153 (Host.shrui : C F S4096x512x4x4 .i32 → C F S4096x512x4x4 .i32 → C F S4096x512x4x4 .i32),
    binary main_call1_call0_call0_v151 main_call1_call0_call0_v153 main_call1_call0_call0_v154 (ori : C F S4096x512x4x4 .i32 → C F S4096x512x4x4 .i32 → C F S4096x512x4x4 .i32),
    binary main_call1_call0_call0_v149 main_call1_call0_call0_v154 main_call1_call0_call0_v155 (xori : C F S4096x512x4x4 .i32 → C F S4096x512x4x4 .i32 → C F S4096x512x4x4 .i32),
    binary main_call1_call0_call0_v149 main_call1_call0_call0_v155 main_call1_call0_call0_v156 (addi : C F S4096x512x4x4 .i32 → C F S4096x512x4x4 .i32 → C F S4096x512x4x4 .i32),
    nullary main_call1_call0_call0_c_40 (constantI S_ 32 26#32),
    unary main_call1_call0_call0_c_40 main_call1_call0_call0_v157 ((broadcastInDim S4096x512x4x4 ![] bcast_S_S4096x512x4x4) : C F S_ .i32 → C F S4096x512x4x4 .i32),
    binary main_call1_call0_call0_v155 main_call1_call0_call0_v157 main_call1_call0_call0_v158 (Host.shli : C F S4096x512x4x4 .i32 → C F S4096x512x4x4 .i32 → C F S4096x512x4x4 .i32),
    nullary main_call1_call0_call0_c_41 (constantI S_ 32 6#32),
    unary main_call1_call0_call0_c_41 main_call1_call0_call0_v159 ((broadcastInDim S4096x512x4x4 ![] bcast_S_S4096x512x4x4) : C F S_ .i32 → C F S4096x512x4x4 .i32),
    binary main_call1_call0_call0_v155 main_call1_call0_call0_v159 main_call1_call0_call0_v160 (Host.shrui : C F S4096x512x4x4 .i32 → C F S4096x512x4x4 .i32 → C F S4096x512x4x4 .i32),
    binary main_call1_call0_call0_v158 main_call1_call0_call0_v160 main_call1_call0_call0_v161 (ori : C F S4096x512x4x4 .i32 → C F S4096x512x4x4 .i32 → C F S4096x512x4x4 .i32),
    binary main_call1_call0_call0_v156 main_call1_call0_call0_v161 main_call1_call0_call0_v162 (xori : C F S4096x512x4x4 .i32 → C F S4096x512x4x4 .i32 → C F S4096x512x4x4 .i32),
    binary main_call1_call0_call0_v156 main_call1_call0_call0_v162 main_call1_call0_call0_v163 (addi : C F S4096x512x4x4 .i32 → C F S4096x512x4x4 .i32 → C F S4096x512x4x4 .i32),
    nullary main_call1_call0_call0_c_42 (constantI S_ 32 6#32),
    unary main_call1_call0_call0_c_42 main_call1_call0_call0_v164 ((broadcastInDim S4096x512x4x4 ![] bcast_S_S4096x512x4x4) : C F S_ .i32 → C F S4096x512x4x4 .i32),
    binary main_call1_call0_call0_v162 main_call1_call0_call0_v164 main_call1_call0_call0_v165 (Host.shli : C F S4096x512x4x4 .i32 → C F S4096x512x4x4 .i32 → C F S4096x512x4x4 .i32),
    nullary main_call1_call0_call0_c_43 (constantI S_ 32 26#32),
    unary main_call1_call0_call0_c_43 main_call1_call0_call0_v166 ((broadcastInDim S4096x512x4x4 ![] bcast_S_S4096x512x4x4) : C F S_ .i32 → C F S4096x512x4x4 .i32),
    binary main_call1_call0_call0_v162 main_call1_call0_call0_v166 main_call1_call0_call0_v167 (Host.shrui : C F S4096x512x4x4 .i32 → C F S4096x512x4x4 .i32 → C F S4096x512x4x4 .i32),
    binary main_call1_call0_call0_v165 main_call1_call0_call0_v167 main_call1_call0_call0_v168 (ori : C F S4096x512x4x4 .i32 → C F S4096x512x4x4 .i32 → C F S4096x512x4x4 .i32),
    binary main_call1_call0_call0_v163 main_call1_call0_call0_v168 main_call1_call0_call0_v169 (xori : C F S4096x512x4x4 .i32 → C F S4096x512x4x4 .i32 → C F S4096x512x4x4 .i32),
    unary main_call1_call0_call0_v1 main_call1_call0_call0_v170 ((broadcastInDim S4096x512x4x4 ![] bcast_S_S4096x512x4x4) : C F S_ .i32 → C F S4096x512x4x4 .i32),
    binary main_call1_call0_call0_v163 main_call1_call0_call0_v170 main_call1_call0_v27_0 (addi : C F S4096x512x4x4 .i32 → C F S4096x512x4x4 .i32 → C F S4096x512x4x4 .i32),
    unary main_call1_call0_v5 main_call1_call0_call0_v172 ((broadcastInDim S4096x512x4x4 ![] bcast_S_S4096x512x4x4) : C F S_ .i32 → C F S4096x512x4x4 .i32),
    binary main_call1_call0_call0_v169 main_call1_call0_call0_v172 main_call1_call0_call0_v173 (addi : C F S4096x512x4x4 .i32 → C F S4096x512x4x4 .i32 → C F S4096x512x4x4 .i32),
    nullary main_call1_call0_call0_c_44 (constantI S_ 32 5#32),
    unary main_call1_call0_call0_c_44 main_call1_call0_call0_v174 ((broadcastInDim S4096x512x4x4 ![] bcast_S_S4096x512x4x4) : C F S_ .i32 → C F S4096x512x4x4 .i32),
    binary main_call1_call0_call0_v173 main_call1_call0_call0_v174 main_call1_call0_v27_1 (addi : C F S4096x512x4x4 .i32 → C F S4096x512x4x4 .i32 → C F S4096x512x4x4 .i32) ]

/-- The buffers that stretch writes, in order. -/
abbrev opsT5W : List (Ref sig .tc) :=
  [ main_call1_call0_call0_v142, main_call1_call0_call0_c_36, main_call1_call0_call0_v143, main_call1_call0_call0_v144, main_call1_call0_call0_c_37, main_call1_call0_call0_v145, main_call1_call0_call0_v146, main_call1_call0_call0_v147, main_call1_call0_call0_v148, main_call1_call0_call0_v149, main_call1_call0_call0_c_38, main_call1_call0_call0_v150, main_call1_call0_call0_v151, main_call1_call0_call0_c_39, main_call1_call0_call0_v152, main_call1_call0_call0_v153, main_call1_call0_call0_v154, main_call1_call0_call0_v155, main_call1_call0_call0_v156, main_call1_call0_call0_c_40, main_call1_call0_call0_v157, main_call1_call0_call0_v158, main_call1_call0_call0_c_41, main_call1_call0_call0_v159, main_call1_call0_call0_v160, main_call1_call0_call0_v161, main_call1_call0_call0_v162, main_call1_call0_call0_v163, main_call1_call0_call0_c_42, main_call1_call0_call0_v164, main_call1_call0_call0_v165, main_call1_call0_call0_c_43, main_call1_call0_call0_v166, main_call1_call0_call0_v167, main_call1_call0_call0_v168, main_call1_call0_call0_v169, main_call1_call0_call0_v170, main_call1_call0_v27_0, main_call1_call0_call0_v172, main_call1_call0_call0_v173, main_call1_call0_call0_c_44, main_call1_call0_call0_v174, main_call1_call0_v27_1 ]

/-- The buffers that the stretch `opsT5` writes, operation by operation. -/
theorem opsT5_writes : (opsT5 : List (HloOp τ sig (Elt F))).map HloOp.writes = opsT5W.map fun r => {Proc.devRef .tc r} := rfl

/-- The uniform draw and its comparison. -/
abbrev opsD : List (HloOp τ sig (Elt F)) :=
  [ binary main_call1_call0_v27_0 main_call1_call0_v27_1 main_call1_call0_v28 (xori : C F S4096x512x4x4 .i32 → C F S4096x512x4x4 .i32 → C F S4096x512x4x4 .i32),
    nullary main_call1_call0_c_4 (constantI S_ 32 9#32),
    unary main_call1_call0_c_4 main_call1_call0_v29 ((broadcastInDim S4096x512x4x4 ![] bcast_S_S4096x512x4x4) : C F S_ .i32 → C F S4096x512x4x4 .i32),
    binary main_call1_call0_v28 main_call1_call0_v29 main_call1_call0_v30 (Host.shrui : C F S4096x512x4x4 .i32 → C F S4096x512x4x4 .i32 → C F S4096x512x4x4 .i32),
    nullary main_call1_call0_c_5 (constantI S_ 32 1065353216#32),
    unary main_call1_call0_c_5 main_call1_call0_v31 ((broadcastInDim S4096x512x4x4 ![] bcast_S_S4096x512x4x4) : C F S_ .i32 → C F S4096x512x4x4 .i32),
    binary main_call1_call0_v30 main_call1_call0_v31 main_call1_call0_v32 (ori : C F S4096x512x4x4 .i32 → C F S4096x512x4x4 .i32 → C F S4096x512x4x4 .i32),
    unary main_call1_call0_v32 main_call1_call0_v33 ((bitcastToFloat .f32) : C F S4096x512x4x4 .i32 → C F S4096x512x4x4 .f32),
    nullary main_call1_call0_cst (constant S_ .f32 0x3F800000#32),
    unary main_call1_call0_cst main_call1_call0_v34 ((broadcastInDim S4096x512x4x4 ![] bcast_S_S4096x512x4x4) : C F S_ .f32 → C F S4096x512x4x4 .f32),
    binary main_call1_call0_v33 main_call1_call0_v34 main_call1_call0_v35 (subf : C F S4096x512x4x4 .f32 → C F S4096x512x4x4 .f32 → C F S4096x512x4x4 .f32),
    binary main_call1_call0_v3 main_call1_call0_v2 main_call1_call0_v36 (subf : C F S1x1x1x1 .f32 → C F S1x1x1x1 .f32 → C F S1x1x1x1 .f32),
    unary main_call1_call0_v36 main_call1_call0_v37 ((broadcastInDim S4096x512x4x4 ![0, 1, 2, 3] bcast_S1x1x1x1_S4096x512x4x4_0_1_2_3) : C F S1x1x1x1 .f32 → C F S4096x512x4x4 .f32),
    binary main_call1_call0_v35 main_call1_call0_v37 main_call1_call0_v38 (mulf : C F S4096x512x4x4 .f32 → C F S4096x512x4x4 .f32 → C F S4096x512x4x4 .f32),
    unary main_call1_call0_v2 main_call1_call0_v39 ((broadcastInDim S4096x512x4x4 ![0, 1, 2, 3] bcast_S1x1x1x1_S4096x512x4x4_0_1_2_3) : C F S1x1x1x1 .f32 → C F S4096x512x4x4 .f32),
    binary main_call1_call0_v38 main_call1_call0_v39 main_call1_call0_v40 (addf : C F S4096x512x4x4 .f32 → C F S4096x512x4x4 .f32 → C F S4096x512x4x4 .f32),
    unary main_call1_call0_v2 main_call1_call0_v41 ((broadcastInDim S4096x512x4x4 ![0, 1, 2, 3] bcast_S1x1x1x1_S4096x512x4x4_0_1_2_3) : C F S1x1x1x1 .f32 → C F S4096x512x4x4 .f32),
    binary main_call1_call0_v41 main_call1_call0_v40 main_call1_v0 (maximumf : C F S4096x512x4x4 .f32 → C F S4096x512x4x4 .f32 → C F S4096x512x4x4 .f32),
    unary main_cst_8 main_call1_v1 ((broadcastInDim S4096x512x4x4 ![] bcast_S_S4096x512x4x4) : C F S_ .f32 → C F S4096x512x4x4 .f32),
    binary main_call1_v0 main_call1_v1 main_v37 ((cmpf .olt) : C F S4096x512x4x4 .f32 → C F S4096x512x4x4 .f32 → C F S4096x512x4x4 .i1) ]

/-- The buffers that stretch writes, in order. -/
abbrev opsDW : List (Ref sig .tc) :=
  [ main_call1_call0_v28, main_call1_call0_c_4, main_call1_call0_v29, main_call1_call0_v30, main_call1_call0_c_5, main_call1_call0_v31, main_call1_call0_v32, main_call1_call0_v33, main_call1_call0_cst, main_call1_call0_v34, main_call1_call0_v35, main_call1_call0_v36, main_call1_call0_v37, main_call1_call0_v38, main_call1_call0_v39, main_call1_call0_v40, main_call1_call0_v41, main_call1_v0, main_call1_v1, main_v37 ]

/-- The buffers that the stretch `opsD` writes, operation by operation. -/
theorem opsD_writes : (opsD : List (HloOp τ sig (Elt F))).map HloOp.writes = opsDW.map fun r => {Proc.devRef .tc r} := rfl

/-- The dropout and the scatter. -/
abbrev opsE : List (HloOp τ sig (Elt F)) :=
  [ nullary main_cst_9 (constant S_ .f32 0x3F000000#32),
    unary main_cst_9 main_v38 (broadcastInDim S4096x512x4x4 ![] bcast_S_S4096x512x4x4 : C F S_ .f32 → C F S4096x512x4x4 .f32),
    binary main_v29 main_v38 main_v39 (Host.divf : C F S4096x512x4x4 .f32 → C F S4096x512x4x4 .f32 → C F S4096x512x4x4 .f32),
    nullary main_cst_10 (constant S_ .f32 0x00000000#32),
    unary main_cst_10 main_v40 (broadcastInDim S4096x512x4x4 ![] bcast_S_S4096x512x4x4 : C F S_ .f32 → C F S4096x512x4x4 .f32),
    ternary main_v37 main_v39 main_v40 main_v41 (select : C F S4096x512x4x4 .i1 → C F S4096x512x4x4 .f32 → C F S4096x512x4x4 .f32 → C F S4096x512x4x4 .f32),
    nullary main_c_11 (constantI S_ 32 0#32),
    unary main_c_11 main_v42 (broadcastInDim S4096 ![] bcast_S_S4096 : C F S_ .i32 → C F S4096 .i32),
    binary main_v22 main_v42 main_v43 (cmpi .slt : C F S4096 .i32 → C F S4096 .i32 → C F S4096 .i1),
    nullary main_c_12 (constantI S_ 32 4096#32),
    unary main_c_12 main_v44 (broadcastInDim S4096 ![] bcast_S_S4096 : C F S_ .i32 → C F S4096 .i32),
    binary main_v22 main_v44 main_v45 (addi : C F S4096 .i32 → C F S4096 .i32 → C F S4096 .i32),
    ternary main_v43 main_v45 main_v22 main_v46 (select : C F S4096 .i1 → C F S4096 .i32 → C F S4096 .i32 → C F S4096 .i32),
    unary main_v46 main_v47 (broadcastInDim S4096x1 ![0] bcast_S4096_S4096x1_0 : C F S4096 .i32 → C F S4096x1 .i32),
    ternary main_arg0 main_v47 main_v41 main_v48 ((fun x i u => Host.scatter scatter_S4096x512x4x4_S4096x1_S4096x512x4x4_123_0_0_1 (fun _ b => b) x i u) : C F S4096x512x4x4 .f32 → C F S4096x1 .i32 → C F S4096x512x4x4 .f32 → C F S4096x512x4x4 .f32) ]

/-- The buffers that stretch writes, in order. -/
abbrev opsEW : List (Ref sig .tc) :=
  [ main_cst_9, main_v38, main_v39, main_cst_10, main_v40, main_v41, main_c_11, main_v42, main_v43, main_c_12, main_v44, main_v45, main_v46, main_v47, main_v48 ]

/-- The buffers that the stretch `opsE` writes, operation by operation. -/
theorem opsE_writes : (opsE : List (HloOp τ sig (Elt F))).map HloOp.writes = opsEW.map fun r => {Proc.devRef .tc r} := rfl

/-- All of them. -/
abbrev ops : List (HloOp τ sig (Elt F)) :=
  opsA ++ (opsB ++ (opsC ++ (opsT0 ++ (opsT1 ++ (opsT2 ++ (opsT3 ++ (opsT4 ++ (opsT5 ++ (opsD ++ (opsE))))))))))

/-- No operation writes a buffer fresh. -/
theorem ops_fresh : (ops : List (HloOp τ sig (Elt F))).Forall fun op => op.fresh = ∅ :=
  forall_fresh_of_map rfl

/-- Every operation touches the TensorCore's references only. -/
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub ..,
    binary_bufs_sub .., unary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., binary_bufs_sub ..,
    unary_bufs_sub .., nullary_bufs_sub .., binary_bufs_sub .., binary_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., nullary_bufs_sub .., binary_bufs_sub ..,
    unary_bufs_sub .., unary_bufs_sub .., nullary_bufs_sub .., binary_bufs_sub .., unary_bufs_sub .., unary_bufs_sub ..,
    binary_bufs_sub .., nullary_bufs_sub .., nullary_bufs_sub .., nullary_bufs_sub .., unary_bufs_sub .., unary_bufs_sub ..,
    unary_bufs_sub .., unary_bufs_sub .., unary_bufs_sub .., reshape_bufs_sub .., unary_bufs_sub .., reshape_bufs_sub ..,
    nullary_bufs_sub .., nullary_bufs_sub .., nullary_bufs_sub .., nullary_bufs_sub .., nullary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., binary_bufs_sub .., binary_bufs_sub ..,
    binary_bufs_sub .., nullary_bufs_sub .., unary_bufs_sub .., binary_bufs_sub .., unary_bufs_sub .., unary_bufs_sub ..,
    binary_bufs_sub .., nullary_bufs_sub .., binary_bufs_sub .., unary_bufs_sub .., binary_bufs_sub .., unary_bufs_sub ..,
    binary_bufs_sub .., binary_bufs_sub .., nullary_bufs_sub .., unary_bufs_sub .., binary_bufs_sub .., nullary_bufs_sub ..,
    unary_bufs_sub .., binary_bufs_sub .., binary_bufs_sub .., binary_bufs_sub .., binary_bufs_sub .., nullary_bufs_sub ..,
    unary_bufs_sub .., binary_bufs_sub .., nullary_bufs_sub .., unary_bufs_sub .., binary_bufs_sub .., binary_bufs_sub ..,
    binary_bufs_sub .., binary_bufs_sub .., nullary_bufs_sub .., unary_bufs_sub .., binary_bufs_sub .., nullary_bufs_sub ..,
    unary_bufs_sub .., binary_bufs_sub .., binary_bufs_sub .., binary_bufs_sub .., binary_bufs_sub .., nullary_bufs_sub ..,
    unary_bufs_sub .., binary_bufs_sub .., nullary_bufs_sub .., unary_bufs_sub .., binary_bufs_sub .., binary_bufs_sub ..,
    binary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., binary_bufs_sub ..,
    nullary_bufs_sub .., unary_bufs_sub .., binary_bufs_sub .., nullary_bufs_sub .., unary_bufs_sub .., binary_bufs_sub ..,
    binary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., binary_bufs_sub ..,
    nullary_bufs_sub .., unary_bufs_sub .., binary_bufs_sub .., nullary_bufs_sub .., unary_bufs_sub .., binary_bufs_sub ..,
    binary_bufs_sub .., binary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., nullary_bufs_sub .., unary_bufs_sub .., binary_bufs_sub .., binary_bufs_sub .., binary_bufs_sub ..,
    binary_bufs_sub .., nullary_bufs_sub .., unary_bufs_sub .., binary_bufs_sub .., nullary_bufs_sub .., unary_bufs_sub ..,
    binary_bufs_sub .., binary_bufs_sub .., binary_bufs_sub .., binary_bufs_sub .., nullary_bufs_sub .., unary_bufs_sub ..,
    binary_bufs_sub .., nullary_bufs_sub .., unary_bufs_sub .., binary_bufs_sub .., binary_bufs_sub .., binary_bufs_sub ..,
    binary_bufs_sub .., nullary_bufs_sub .., unary_bufs_sub .., binary_bufs_sub .., nullary_bufs_sub .., unary_bufs_sub ..,
    binary_bufs_sub .., binary_bufs_sub .., binary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., nullary_bufs_sub .., unary_bufs_sub .., binary_bufs_sub .., binary_bufs_sub ..,
    binary_bufs_sub .., binary_bufs_sub .., nullary_bufs_sub .., unary_bufs_sub .., binary_bufs_sub .., nullary_bufs_sub ..,
    unary_bufs_sub .., binary_bufs_sub .., binary_bufs_sub .., binary_bufs_sub .., binary_bufs_sub .., nullary_bufs_sub ..,
    unary_bufs_sub .., binary_bufs_sub .., nullary_bufs_sub .., unary_bufs_sub .., binary_bufs_sub .., binary_bufs_sub ..,
    binary_bufs_sub .., binary_bufs_sub .., nullary_bufs_sub .., unary_bufs_sub .., binary_bufs_sub .., nullary_bufs_sub ..,
    unary_bufs_sub .., binary_bufs_sub .., binary_bufs_sub .., binary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., nullary_bufs_sub .., unary_bufs_sub .., binary_bufs_sub ..,
    binary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., binary_bufs_sub ..,
    nullary_bufs_sub .., unary_bufs_sub .., binary_bufs_sub .., nullary_bufs_sub .., unary_bufs_sub .., binary_bufs_sub ..,
    binary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., nullary_bufs_sub .., unary_bufs_sub ..,
    binary_bufs_sub .., unary_bufs_sub .., nullary_bufs_sub .., unary_bufs_sub .., binary_bufs_sub .., binary_bufs_sub ..,
    unary_bufs_sub .., binary_bufs_sub .., unary_bufs_sub .., binary_bufs_sub .., unary_bufs_sub .., binary_bufs_sub ..,
    unary_bufs_sub .., binary_bufs_sub .., nullary_bufs_sub .., unary_bufs_sub .., binary_bufs_sub .., nullary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., ternary_bufs_sub ..⟩

set_option maxRecDepth 100000 in
/-- The program is that straight line. -/
theorem main_eq (c : Dev nD) : main (F := F) c = seq ops := rfl

end Cert.Proof.Ref

end
-- ==== Proof.Pure.Words.lean ====
/-
  The words of the counter-based generator: the round, the groups of four rounds, the key injections and the twenty rounds
  of the cipher, on pairs of 32-bit words.
-/
module

public import Idealize.ShloMosaic.PureOps

@[expose] public section

namespace Cert.Proof

open Idealize.ShloMosaic

/-- A 32-bit word. -/
abbrev W : Type := BitVec 32

/-- The word rotated left by `a`, where `b` is 32 less `a`. -/
def rot (a b x : W) : W := x <<< a ||| x >>> b

/-- One round: the words' sum, and its exclusive or with the second word rotated. -/
def step (a b : W) (p : W × W) : W × W := (p.1 + p.2, (p.1 + p.2) ^^^ rot a b p.2)

/-- Four rounds at the first four rotations. -/
def grpA (p : W × W) : W × W :=
  step 6#32 26#32 (step 26#32 6#32 (step 15#32 17#32 (step 13#32 19#32 p)))

/-- Four rounds at the other four rotations. -/
def grpB (p : W × W) : W × W :=
  step 24#32 8#32 (step 16#32 16#32 (step 29#32 3#32 (step 17#32 15#32 p)))

/-- A key injection: one key word added to the first word, another and a count to the second. -/
def inj (k k' c : W) (p : W × W) : W × W := (p.1 + k, p.2 + k' + c)

/-- The twenty rounds from an initial state under the key words `k0`, `k1`, `k2`. -/
def cipher (k0 k1 k2 : W) (p : W × W) : W × W :=
  inj k2 k0 5#32 (grpA (inj k1 k2 4#32 (grpB (inj k0 k1 3#32 (grpA (inj k2 k0 2#32 (grpB (inj k1 k2 1#32 (grpA p)))))))))

/-- The third key word under the keys 0 and 42. -/
def ks2 : W := 0#32 ^^^ 42#32 ^^^ 466688986#32

/-- The generator's word at a 32-bit counter: the counter's high word 0, the keys 0 and 42, the two output words'
    exclusive or. -/
def drawW (x : W) : W :=
  let p := cipher 0#32 42#32 ks2 (0#32 + 0#32, x + 42#32)
  p.1 ^^^ p.2

end Cert.Proof

end
-- ==== Proof.Ref.Value.lean ====
/-
  What each stretch of the reference program computes, as functions of arrays: the scores, the sorted positions of the
  first class, the gathered batch, the generator's words, the mask, and the scatter.
-/
module

public import proofs.«01_k».proof.Proof.Ref.Ops
public import proofs.«01_k».proof.Proof.Pure.Words
public import Idealize.ShloMosaic.PureOps.Ideal

@[expose] public section

noncomputable section

namespace Cert.Proof.Ref

open Cert.ReferenceIdeal Cert.ReferenceIdeal.Gen
open Idealize.ShloMosaic Idealize.ShloMosaic.TcCoe Idealize.ShloMosaic.StableHlo Idealize.SL.Sem

/-- The contents of an array over the extended reals. -/
abbrev CI (s : Shape) (e : EltTy) : Type := C Idealize.ShloMosaic.Ideal s e

/-- The mean over the last two axes. -/
def refMean (x : CI S4096x512x4x4 .f32) : CI S4096x512 .f32 :=
  Host.divf (F := Idealize.ShloMosaic.Ideal) (φ := .f32)
    (Host.reduceAdd x (constant S_ .f32 0x00000000#32) reducesTo_S4096x512x4x4_S4096x512_d2_3 h_S_)
    (broadcastInDim S4096x512 ![] bcast_S_S4096x512 (constant S_ .f32 0x41800000#32))

/-- The logits: the means against the transposed weights, and the bias. -/
def refLogits (x : CI S4096x512x4x4 .f32) (w : CI S1000x512 .f32) (b : CI S1000 .f32) : CI S4096x1000 .f32 :=
  addf (F := Idealize.ShloMosaic.Ideal) (φ := .f32)
    (Host.dotGeneral (F := Idealize.ShloMosaic.Ideal) (φ₁ := .f32) (φ₂ := .f32) dot_S4096x512_S512x1000_S4096x1000_1_0_0_1_n_n none (refMean x)
      (transpose (α := Idealize.ShloMosaic.Ideal .f32) S512x1000 [1, 0] w transposes_S1000x512_S512x1000_1_0))
    (broadcastInDim S4096x1000 ![0, 1] bcast_S1x1000_S4096x1000_0_1 (broadcastInDim S1x1000 ![1] bcast_S1000_S1x1000_1 b))

/-- The largest logit of each row. -/
def refMax (l : CI S4096x1000 .f32) : CI S4096 .f32 :=
  maximumf (F := Idealize.ShloMosaic.Ideal) (φ := .f32)
    (broadcastInDim S4096 ![] bcast_S_S4096 (constant S_ .f32 0xFF800000#32))
    (Host.reduce FloatOps.maximumf l (constant S_ .f32 0xFF800000#32) reducesTo_S4096x1000_S4096_d1 h_S_)

/-- The exponentials of the logits less their row's largest. -/
def refExp (l : CI S4096x1000 .f32) : CI S4096x1000 .f32 :=
  Host.exp (F := Idealize.ShloMosaic.Ideal) (φ := .f32)
    (subf l (broadcastInDim S4096x1000 ![0, 1] bcast_S4096x1_S4096x1000_0_1
      (broadcastInDim S4096x1 ![0] bcast_S4096_S4096x1_0 (refMax l))))

/-- The exponentials over their row's sum. -/
def refSoft (e : CI S4096x1000 .f32) : CI S4096x1000 .f32 :=
  Host.divf (F := Idealize.ShloMosaic.Ideal) (φ := .f32) e
    (broadcastInDim S4096x1000 ![0, 1] bcast_S4096x1_S4096x1000_0_1
      (broadcastInDim S4096x1 ![0] bcast_S4096_S4096x1_0
        (Host.reduceAdd e (constant S_ .f32 0x00000000#32) reducesTo_S4096x1000_S4096_d1 h_S_)))

/-- The probabilities. -/
def refProb (x : CI S4096x512x4x4 .f32) (w : CI S1000x512 .f32) (b : CI S1000 .f32) : CI S4096x1000 .f32 :=
  refSoft (refExp (refLogits x w b))

/-- The positions the stable sort of the negated probabilities takes, in the first column. -/
def refIdx (s : CI S4096x1000 .f32) : CI S4096 .i32 :=
  shapeCast S4096 (extractStridedSlice S4096x1 ![0, 0]
    (Host.sort2 (α := Idealize.ShloMosaic.Ideal .f32) S4096x1000 0 comparator_f32_i32_d0 s (iotaInDim S4096x1000 32 0)).2
    slices_S4096x1000_S4096x1_0_0) shapeCasts_S4096x1_S4096

/-- The positions as a column, 4096 added to a negative one. -/
def refWrap (k : CI S4096 .i32) : CI S4096x1 .i32 :=
  broadcastInDim S4096x1 ![0] bcast_S4096_S4096x1_0
    (select (cmpi .slt k (broadcastInDim S4096 ![] bcast_S_S4096 (constantI S_ 32 0#32)))
      (addi k (broadcastInDim S4096 ![] bcast_S_S4096 (constantI S_ 32 4096#32))) k)

/-- The batch gathered at the positions. -/
def refGather (x : CI S4096x512x4x4 .f32) (k : CI S4096 .i32) : CI S4096x512x4x4 .f32 :=
  Host.gather gather_S4096x512x4x4_S4096x1_S4096x512x4x4_123_0_n_n_0_1_151244 x (refWrap k)

/-- A scalar array over the whole batch. -/
abbrev bc (k : CI S_ .i32) : CI S4096x512x4x4 .i32 := broadcastInDim S4096x512x4x4 ![] bcast_S_S4096x512x4x4 k

/-- The position of an element in the batch, as a 64-bit word. -/
def refPos (i : S4096x512x4x4.Idx) : BitVec 64 :=
  8192#64 * BitVec.ofNat 64 (i 0).val + 16#64 * BitVec.ofNat 64 (i 1).val + 4#64 * BitVec.ofNat 64 (i 2).val
    + 1#64 * BitVec.ofNat 64 (i 3).val

/-- The draw in [0, 1) made of a word, and whether it is below one half. -/
def refMask (lo hi : CI S1x1x1x1 .f32) (half : CI S_ .f32) (b : CI S4096x512x4x4 .i32) : CI S4096x512x4x4 .i1 :=
  cmpf (F := Idealize.ShloMosaic.Ideal) (φ := .f32) .olt
    (maximumf
      (broadcastInDim S4096x512x4x4 ![0, 1, 2, 3] bcast_S1x1x1x1_S4096x512x4x4_0_1_2_3 lo)
      (addf
        (mulf
          (subf
            (bitcastToFloat .f32 (ori (Host.shrui b (bc (constantI S_ 32 9#32))) (bc (constantI S_ 32 1065353216#32))))
            (broadcastInDim S4096x512x4x4 ![] bcast_S_S4096x512x4x4 (constant S_ .f32 0x3F800000#32)))
          (broadcastInDim S4096x512x4x4 ![0, 1, 2, 3] bcast_S1x1x1x1_S4096x512x4x4_0_1_2_3
            (subf (F := Idealize.ShloMosaic.Ideal) (φ := .f32) hi lo)))
        (broadcastInDim S4096x512x4x4 ![0, 1, 2, 3] bcast_S1x1x1x1_S4096x512x4x4_0_1_2_3 lo)))
    (broadcastInDim S4096x512x4x4 ![] bcast_S_S4096x512x4x4 half)

/-- The gathered batch over one half where the mask holds, zero elsewhere. -/
def refDrop (keep : CI S4096x512x4x4 .i1) (g : CI S4096x512x4x4 .f32) : CI S4096x512x4x4 .f32 :=
  select keep
    (Host.divf (F := Idealize.ShloMosaic.Ideal) (φ := .f32) g
      (broadcastInDim S4096x512x4x4 ![] bcast_S_S4096x512x4x4 (constant S_ .f32 0x3F000000#32)))
    (broadcastInDim S4096x512x4x4 ![] bcast_S_S4096x512x4x4 (constant (F := Idealize.ShloMosaic.Ideal) S_ .f32 0x00000000#32))

/-- The batch with the rows at the positions replaced. -/
def refScatter (x : CI S4096x512x4x4 .f32) (k : CI S4096 .i32) (u : CI S4096x512x4x4 .f32) : CI S4096x512x4x4 .f32 :=
  Host.scatter scatter_S4096x512x4x4_S4096x1_S4096x512x4x4_123_0_0_1 (fun _ b => b) x (refWrap k) u

/-- A stretch leaves a buffer that it does not write. -/
theorem after_kept {ops : List (HloOp τ sig (Elt Idealize.ShloMosaic.Ideal))} {L : List (Ref sig .tc)}
    (h : ops.map HloOp.writes = L.map fun r => {Proc.devRef .tc r}) (V : Valuation τ sig (Elt Idealize.ShloMosaic.Ideal))
    (r : Ref sig .tc) (hr : r ∉ L) : after ops V (Proc.devRef .tc r) = V (Proc.devRef .tc r) :=
  after_of_writes_sub ops V (forall_writes_sub_of_map h) hr

end Cert.Proof.Ref

end
-- ==== Proof.Ref.Read.lean ====
/-
  The reference program's buffers after each stretch, read as the functions of Value.lean, and its result as one function
  of its arguments.
-/
module

public import proofs.«01_k».proof.Proof.Ref.Value
public import Idealize.ShloMosaic.Lib.StableHlo.RunRead

@[expose] public section

noncomputable section

namespace Cert.Proof.Ref

open Cert.ReferenceIdeal Cert.ReferenceIdeal.Gen
open Idealize.ShloMosaic Idealize.ShloMosaic.TcCoe Idealize.ShloMosaic.StableHlo Idealize.SL.Sem

/-- The buffers' contents over the extended reals. -/
abbrev Val : Type := Valuation τ sig (Elt Idealize.ShloMosaic.Ideal)

/-- The two key words side by side. -/
abbrev keys : CI S2 .i32 :=
  concatenate S2 0
    [⟨S1, broadcastInDim S1 ![] bcast_S_S1 (id (Host.shrui (constantI S_ 32 42#32) (constantI S_ 32 32#32)))⟩,
      ⟨S1, broadcastInDim S1 ![] bcast_S_S1 (id (andi (constantI S_ 32 42#32) (constantI S_ 32 4294967295#32)))⟩]
    concatenates_S1_S1_S2_d0

/-- The first is zero, -/
theorem key0 : shapeCast S_ (extractStridedSlice S1 ![0] keys slices_S2_S1_0) shapeCasts_S1_S_ = fun _ => 0#32 :=
  funext (by decide +kernel)

/-- the second 42. -/
theorem key1 : shapeCast S_ (extractStridedSlice S1 ![1] keys slices_S2_S1_1) shapeCasts_S1_S_ = fun _ => 42#32 :=
  funext (by decide +kernel)

variable (V : Val)

/-- The first stretch leaves the negated probabilities. -/
theorem readA :
    after opsA V (main_v19 : DevRef τ sig) =
      Host.negf (F := Idealize.ShloMosaic.Ideal) (φ := .f32) (refProb (V (main_arg0 : DevRef τ sig)) (V (main_arg1 : DevRef τ sig)) (V (main_arg2 : DevRef τ sig))) := by
  after_reads_simp <;> rfl

/-- The second leaves the sorted positions, -/
theorem readB_idx :
    after opsB V (main_v22 : DevRef τ sig) =
      refIdx (V (main_v19 : DevRef τ sig)) := by
  after_reads_simp <;> rfl

/-- and the batch gathered at them. -/
theorem readB_g :
    after opsB V (main_v29 : DevRef τ sig) =
      refGather (V (main_arg0 : DevRef τ sig)) (refIdx (V (main_v19 : DevRef τ sig))) := by
  after_reads_simp <;> rfl

/-- The third leaves the first key, zero, -/
theorem readC_k0 :
    after opsC V (main_call1_call0_v5 : DevRef τ sig) =
      fun _ => 0#32 := by
  after_results; exact key0

/-- the second key, 42, -/
theorem readC_k1 :
    after opsC V (main_call1_call0_v7 : DevRef τ sig) =
      fun _ => 42#32 := by
  after_results; exact key1

/-- the low words of the positions, -/
theorem readC_lo :
    after opsC V (main_call1_call0_v25 : DevRef τ sig) =
      fun i => (refPos i).setWidth 32 := by
  after_reads_simp <;> rfl

/-- their high words, -/
theorem readC_hi :
    after opsC V (main_call1_call0_v26 : DevRef τ sig) =
      fun i => (refPos i >>> 32#64).setWidth 32 := by
  after_reads_simp <;> rfl

/-- the bounds of the draw, -/
theorem readC_z :
    after opsC V (main_call1_call0_v2 : DevRef τ sig) =
      broadcastInDim S1x1x1x1 ![] bcast_S_S1x1x1x1 (constant (F := Idealize.ShloMosaic.Ideal) S_ .f32 0x00000000#32) := by
  after_reads_simp <;> rfl

/-- and of its other end, -/
theorem readC_o :
    after opsC V (main_call1_call0_v3 : DevRef τ sig) =
      broadcastInDim S1x1x1x1 ![] bcast_S_S1x1x1x1 (constant (F := Idealize.ShloMosaic.Ideal) S_ .f32 0x3F800000#32) := by
  after_reads_simp <;> rfl

/-- and one half. -/
theorem readC_h :
    after opsC V (main_cst_8 : DevRef τ sig) =
      constant (F := Idealize.ShloMosaic.Ideal) S_ .f32 0x3F000000#32 := by
  after_reads_simp <;> rfl

/-- The cipher starts with its third key word, -/
theorem readT0_k2 :
    after opsT0 V (main_call1_call0_call0_v1 : DevRef τ sig) =
      xori (xori (V (main_call1_call0_v5 : DevRef τ sig)) (V (main_call1_call0_v7 : DevRef τ sig))) (constantI S_ 32 466688986#32) := by
  after_reads_simp <;> rfl

/-- its first word plus the first key, -/
theorem readT0_x :
    after opsT0 V (main_call1_call0_call0_v3 : DevRef τ sig) =
      addi (V (main_call1_call0_v26 : DevRef τ sig)) (bc (V (main_call1_call0_v5 : DevRef τ sig))) := by
  after_reads_simp <;> rfl

/-- and its second plus the second. -/
theorem readT0_y :
    after opsT0 V (main_call1_call0_call0_v5 : DevRef τ sig) =
      addi (V (main_call1_call0_v25 : DevRef τ sig)) (bc (V (main_call1_call0_v7 : DevRef τ sig))) := by
  after_reads_simp <;> rfl

/-- First word after group 1 of rounds and its injection. -/
theorem readT1_x :
    after opsT1 V (main_call1_call0_call0_v35 : DevRef τ sig) =
      fun i => (inj (bc (V (main_call1_call0_v7 : DevRef τ sig)) i) (bc (V (main_call1_call0_call0_v1 : DevRef τ sig)) i) 1#32 (grpA ((V (main_call1_call0_call0_v3 : DevRef τ sig)) i, (V (main_call1_call0_call0_v5 : DevRef τ sig)) i))).1 := by
  after_reads_simp; funext i; rfl

/-- Second word after group 1 of rounds and its injection. -/
theorem readT1_y :
    after opsT1 V (main_call1_call0_call0_v39 : DevRef τ sig) =
      fun i => (inj (bc (V (main_call1_call0_v7 : DevRef τ sig)) i) (bc (V (main_call1_call0_call0_v1 : DevRef τ sig)) i) 1#32 (grpA ((V (main_call1_call0_call0_v3 : DevRef τ sig)) i, (V (main_call1_call0_call0_v5 : DevRef τ sig)) i))).2 := by
  after_reads_simp; funext i; rfl

/-- First word after group 2 of rounds and its injection. -/
theorem readT2_x :
    after opsT2 V (main_call1_call0_call0_v69 : DevRef τ sig) =
      fun i => (inj (bc (V (main_call1_call0_call0_v1 : DevRef τ sig)) i) (bc (V (main_call1_call0_v5 : DevRef τ sig)) i) 2#32 (grpB ((V (main_call1_call0_call0_v35 : DevRef τ sig)) i, (V (main_call1_call0_call0_v39 : DevRef τ sig)) i))).1 := by
  after_reads_simp; funext i; rfl

/-- Second word after group 2 of rounds and its injection. -/
theorem readT2_y :
    after opsT2 V (main_call1_call0_call0_v73 : DevRef τ sig) =
      fun i => (inj (bc (V (main_call1_call0_call0_v1 : DevRef τ sig)) i) (bc (V (main_call1_call0_v5 : DevRef τ sig)) i) 2#32 (grpB ((V (main_call1_call0_call0_v35 : DevRef τ sig)) i, (V (main_call1_call0_call0_v39 : DevRef τ sig)) i))).2 := by
  after_reads_simp; funext i; rfl

/-- First word after group 3 of rounds and its injection. -/
theorem readT3_x :
    after opsT3 V (main_call1_call0_call0_v103 : DevRef τ sig) =
      fun i => (inj (bc (V (main_call1_call0_v5 : DevRef τ sig)) i) (bc (V (main_call1_call0_v7 : DevRef τ sig)) i) 3#32 (grpA ((V (main_call1_call0_call0_v69 : DevRef τ sig)) i, (V (main_call1_call0_call0_v73 : DevRef τ sig)) i))).1 := by
  after_reads_simp; funext i; rfl

/-- Second word after group 3 of rounds and its injection. -/
theorem readT3_y :
    after opsT3 V (main_call1_call0_call0_v107 : DevRef τ sig) =
      fun i => (inj (bc (V (main_call1_call0_v5 : DevRef τ sig)) i) (bc (V (main_call1_call0_v7 : DevRef τ sig)) i) 3#32 (grpA ((V (main_call1_call0_call0_v69 : DevRef τ sig)) i, (V (main_call1_call0_call0_v73 : DevRef τ sig)) i))).2 := by
  after_reads_simp; funext i; rfl

/-- First word after group 4 of rounds and its injection. -/
theorem readT4_x :
    after opsT4 V (main_call1_call0_call0_v137 : DevRef τ sig) =
      fun i => (inj (bc (V (main_call1_call0_v7 : DevRef τ sig)) i) (bc (V (main_call1_call0_call0_v1 : DevRef τ sig)) i) 4#32 (grpB ((V (main_call1_call0_call0_v103 : DevRef τ sig)) i, (V (main_call1_call0_call0_v107 : DevRef τ sig)) i))).1 := by
  after_reads_simp; funext i; rfl

/-- Second word after group 4 of rounds and its injection. -/
theorem readT4_y :
    after opsT4 V (main_call1_call0_call0_v141 : DevRef τ sig) =
      fun i => (inj (bc (V (main_call1_call0_v7 : DevRef τ sig)) i) (bc (V (main_call1_call0_call0_v1 : DevRef τ sig)) i) 4#32 (grpB ((V (main_call1_call0_call0_v103 : DevRef τ sig)) i, (V (main_call1_call0_call0_v107 : DevRef τ sig)) i))).2 := by
  after_reads_simp; funext i; rfl

/-- First word after group 5 of rounds and its injection. -/
theorem readT5_x :
    after opsT5 V (main_call1_call0_v27_0 : DevRef τ sig) =
      fun i => (inj (bc (V (main_call1_call0_call0_v1 : DevRef τ sig)) i) (bc (V (main_call1_call0_v5 : DevRef τ sig)) i) 5#32 (grpA ((V (main_call1_call0_call0_v137 : DevRef τ sig)) i, (V (main_call1_call0_call0_v141 : DevRef τ sig)) i))).1 := by
  after_reads_simp; funext i; rfl

/-- Second word after group 5 of rounds and its injection. -/
theorem readT5_y :
    after opsT5 V (main_call1_call0_v27_1 : DevRef τ sig) =
      fun i => (inj (bc (V (main_call1_call0_call0_v1 : DevRef τ sig)) i) (bc (V (main_call1_call0_v5 : DevRef τ sig)) i) 5#32 (grpA ((V (main_call1_call0_call0_v137 : DevRef τ sig)) i, (V (main_call1_call0_call0_v141 : DevRef τ sig)) i))).2 := by
  after_reads_simp; funext i; rfl

/-- The draw and its comparison. -/
theorem readD :
    after opsD V (main_v37 : DevRef τ sig) =
      refMask (V (main_call1_call0_v2 : DevRef τ sig)) (V (main_call1_call0_v3 : DevRef τ sig)) (V (main_cst_8 : DevRef τ sig)) (xori (V (main_call1_call0_v27_0 : DevRef τ sig)) (V (main_call1_call0_v27_1 : DevRef τ sig))) := by
  after_reads_simp <;> rfl

/-- The last stretch leaves the result. -/
theorem readE :
    after opsE V (main_v48 : DevRef τ sig) =
      refScatter (V (main_arg0 : DevRef τ sig)) (V (main_v22 : DevRef τ sig)) (refDrop (V (main_v37 : DevRef τ sig)) (V (main_v29 : DevRef τ sig))) := by
  after_reads_simp <;> rfl

/-! ## The stretches, one after another -/

/-- The contents after the first `n + 1` stretches. -/
abbrev VA : Val := after opsA V
/-- The buffers after the stretch `opsB`. -/
abbrev VB : Val := after opsB (VA V)
/-- The buffers after the stretch `opsC`. -/
abbrev VC : Val := after opsC (VB V)
/-- The buffers after the stretch `opsT0`. -/
abbrev VT0 : Val := after opsT0 (VC V)
/-- The buffers after the stretch `opsT1`. -/
abbrev VT1 : Val := after opsT1 (VT0 V)
/-- The buffers after the stretch `opsT2`. -/
abbrev VT2 : Val := after opsT2 (VT1 V)
/-- The buffers after the stretch `opsT3`. -/
abbrev VT3 : Val := after opsT3 (VT2 V)
/-- The buffers after the stretch `opsT4`. -/
abbrev VT4 : Val := after opsT4 (VT3 V)
/-- The buffers after the stretch `opsT5`. -/
abbrev VT5 : Val := after opsT5 (VT4 V)
/-- The buffers after the stretch `opsD`. -/
abbrev VD : Val := after opsD (VT5 V)

/-- All the stretches, one after another. -/
theorem after_ops : after ops V = after opsE (VD V) := by
  unfold ops; simp only [after_append]

/-- The stretches up to `opsT0` leave the first key word. -/
theorem keepT0_k0 : VT0 V (main_call1_call0_v5 : DevRef τ sig) = VC V (main_call1_call0_v5 : DevRef τ sig) :=
  after_kept opsT0_writes (VC V) main_call1_call0_v5 (by decide)

/-- The stretches up to `opsT1` leave the first key word. -/
theorem keepT1_k0 : VT1 V (main_call1_call0_v5 : DevRef τ sig) = VC V (main_call1_call0_v5 : DevRef τ sig) :=
  (after_kept opsT1_writes (VT0 V) main_call1_call0_v5 (by decide)).trans
    (after_kept opsT0_writes (VC V) main_call1_call0_v5 (by decide))

/-- The stretches up to `opsT2` leave the first key word. -/
theorem keepT2_k0 : VT2 V (main_call1_call0_v5 : DevRef τ sig) = VC V (main_call1_call0_v5 : DevRef τ sig) :=
  ((after_kept opsT2_writes (VT1 V) main_call1_call0_v5 (by decide)).trans
    (after_kept opsT1_writes (VT0 V) main_call1_call0_v5 (by decide))).trans
    (after_kept opsT0_writes (VC V) main_call1_call0_v5 (by decide))

/-- The stretches up to `opsT3` leave the first key word. -/
theorem keepT3_k0 : VT3 V (main_call1_call0_v5 : DevRef τ sig) = VC V (main_call1_call0_v5 : DevRef τ sig) :=
  (((after_kept opsT3_writes (VT2 V) main_call1_call0_v5 (by decide)).trans
    (after_kept opsT2_writes (VT1 V) main_call1_call0_v5 (by decide))).trans
    (after_kept opsT1_writes (VT0 V) main_call1_call0_v5 (by decide))).trans
    (after_kept opsT0_writes (VC V) main_call1_call0_v5 (by decide))

/-- The stretches up to `opsT4` leave the first key word. -/
theorem keepT4_k0 : VT4 V (main_call1_call0_v5 : DevRef τ sig) = VC V (main_call1_call0_v5 : DevRef τ sig) :=
  ((((after_kept opsT4_writes (VT3 V) main_call1_call0_v5 (by decide)).trans
    (after_kept opsT3_writes (VT2 V) main_call1_call0_v5 (by decide))).trans
    (after_kept opsT2_writes (VT1 V) main_call1_call0_v5 (by decide))).trans
    (after_kept opsT1_writes (VT0 V) main_call1_call0_v5 (by decide))).trans
    (after_kept opsT0_writes (VC V) main_call1_call0_v5 (by decide))

/-- The stretches up to `opsT0` leave the second key word. -/
theorem keepT0_k1 : VT0 V (main_call1_call0_v7 : DevRef τ sig) = VC V (main_call1_call0_v7 : DevRef τ sig) :=
  after_kept opsT0_writes (VC V) main_call1_call0_v7 (by decide)

/-- The stretches up to `opsT1` leave the second key word. -/
theorem keepT1_k1 : VT1 V (main_call1_call0_v7 : DevRef τ sig) = VC V (main_call1_call0_v7 : DevRef τ sig) :=
  (after_kept opsT1_writes (VT0 V) main_call1_call0_v7 (by decide)).trans
    (after_kept opsT0_writes (VC V) main_call1_call0_v7 (by decide))

/-- The stretches up to `opsT2` leave the second key word. -/
theorem keepT2_k1 : VT2 V (main_call1_call0_v7 : DevRef τ sig) = VC V (main_call1_call0_v7 : DevRef τ sig) :=
  ((after_kept opsT2_writes (VT1 V) main_call1_call0_v7 (by decide)).trans
    (after_kept opsT1_writes (VT0 V) main_call1_call0_v7 (by decide))).trans
    (after_kept opsT0_writes (VC V) main_call1_call0_v7 (by decide))

/-- The stretches up to `opsT3` leave the second key word. -/
theorem keepT3_k1 : VT3 V (main_call1_call0_v7 : DevRef τ sig) = VC V (main_call1_call0_v7 : DevRef τ sig) :=
  (((after_kept opsT3_writes (VT2 V) main_call1_call0_v7 (by decide)).trans
    (after_kept opsT2_writes (VT1 V) main_call1_call0_v7 (by decide))).trans
    (after_kept opsT1_writes (VT0 V) main_call1_call0_v7 (by decide))).trans
    (after_kept opsT0_writes (VC V) main_call1_call0_v7 (by decide))

/-- The stretches up to `opsT4` leave the second key word. -/
theorem keepT4_k1 : VT4 V (main_call1_call0_v7 : DevRef τ sig) = VC V (main_call1_call0_v7 : DevRef τ sig) :=
  ((((after_kept opsT4_writes (VT3 V) main_call1_call0_v7 (by decide)).trans
    (after_kept opsT3_writes (VT2 V) main_call1_call0_v7 (by decide))).trans
    (after_kept opsT2_writes (VT1 V) main_call1_call0_v7 (by decide))).trans
    (after_kept opsT1_writes (VT0 V) main_call1_call0_v7 (by decide))).trans
    (after_kept opsT0_writes (VC V) main_call1_call0_v7 (by decide))

/-- The stretches up to `opsT1` leave the third key word. -/
theorem keepT1_k2 : VT1 V (main_call1_call0_call0_v1 : DevRef τ sig) = VT0 V (main_call1_call0_call0_v1 : DevRef τ sig) :=
  after_kept opsT1_writes (VT0 V) main_call1_call0_call0_v1 (by decide)

/-- The stretches up to `opsT2` leave the third key word. -/
theorem keepT2_k2 : VT2 V (main_call1_call0_call0_v1 : DevRef τ sig) = VT0 V (main_call1_call0_call0_v1 : DevRef τ sig) :=
  (after_kept opsT2_writes (VT1 V) main_call1_call0_call0_v1 (by decide)).trans
    (after_kept opsT1_writes (VT0 V) main_call1_call0_call0_v1 (by decide))

/-- The stretches up to `opsT3` leave the third key word. -/
theorem keepT3_k2 : VT3 V (main_call1_call0_call0_v1 : DevRef τ sig) = VT0 V (main_call1_call0_call0_v1 : DevRef τ sig) :=
  ((after_kept opsT3_writes (VT2 V) main_call1_call0_call0_v1 (by decide)).trans
    (after_kept opsT2_writes (VT1 V) main_call1_call0_call0_v1 (by decide))).trans
    (after_kept opsT1_writes (VT0 V) main_call1_call0_call0_v1 (by decide))

/-- The stretches up to `opsT4` leave the third key word. -/
theorem keepT4_k2 : VT4 V (main_call1_call0_call0_v1 : DevRef τ sig) = VT0 V (main_call1_call0_call0_v1 : DevRef τ sig) :=
  (((after_kept opsT4_writes (VT3 V) main_call1_call0_call0_v1 (by decide)).trans
    (after_kept opsT3_writes (VT2 V) main_call1_call0_call0_v1 (by decide))).trans
    (after_kept opsT2_writes (VT1 V) main_call1_call0_call0_v1 (by decide))).trans
    (after_kept opsT1_writes (VT0 V) main_call1_call0_call0_v1 (by decide))

/-- The stretches of the generator leave the lower bound, zero. -/
theorem keep_z : VT5 V (main_call1_call0_v2 : DevRef τ sig) = VC V (main_call1_call0_v2 : DevRef τ sig) :=
  (((((after_kept opsT5_writes (VT4 V) main_call1_call0_v2 (by decide)).trans
    (after_kept opsT4_writes (VT3 V) main_call1_call0_v2 (by decide))).trans
    (after_kept opsT3_writes (VT2 V) main_call1_call0_v2 (by decide))).trans
    (after_kept opsT2_writes (VT1 V) main_call1_call0_v2 (by decide))).trans
    (after_kept opsT1_writes (VT0 V) main_call1_call0_v2 (by decide))).trans
    (after_kept opsT0_writes (VC V) main_call1_call0_v2 (by decide))

/-- The stretches of the generator leave the upper bound, one. -/
theorem keep_o : VT5 V (main_call1_call0_v3 : DevRef τ sig) = VC V (main_call1_call0_v3 : DevRef τ sig) :=
  (((((after_kept opsT5_writes (VT4 V) main_call1_call0_v3 (by decide)).trans
    (after_kept opsT4_writes (VT3 V) main_call1_call0_v3 (by decide))).trans
    (after_kept opsT3_writes (VT2 V) main_call1_call0_v3 (by decide))).trans
    (after_kept opsT2_writes (VT1 V) main_call1_call0_v3 (by decide))).trans
    (after_kept opsT1_writes (VT0 V) main_call1_call0_v3 (by decide))).trans
    (after_kept opsT0_writes (VC V) main_call1_call0_v3 (by decide))

/-- The stretches of the generator leave the threshold, one half. -/
theorem keep_h : VT5 V (main_cst_8 : DevRef τ sig) = VC V (main_cst_8 : DevRef τ sig) :=
  (((((after_kept opsT5_writes (VT4 V) main_cst_8 (by decide)).trans
    (after_kept opsT4_writes (VT3 V) main_cst_8 (by decide))).trans
    (after_kept opsT3_writes (VT2 V) main_cst_8 (by decide))).trans
    (after_kept opsT2_writes (VT1 V) main_cst_8 (by decide))).trans
    (after_kept opsT1_writes (VT0 V) main_cst_8 (by decide))).trans
    (after_kept opsT0_writes (VC V) main_cst_8 (by decide))

/-- The stretches of the generator leave the sorted positions. -/
theorem keep_idx : VD V (main_v22 : DevRef τ sig) = VB V (main_v22 : DevRef τ sig) :=
  (((((((after_kept opsD_writes (VT5 V) main_v22 (by decide)).trans
    (after_kept opsT5_writes (VT4 V) main_v22 (by decide))).trans
    (after_kept opsT4_writes (VT3 V) main_v22 (by decide))).trans
    (after_kept opsT3_writes (VT2 V) main_v22 (by decide))).trans
    (after_kept opsT2_writes (VT1 V) main_v22 (by decide))).trans
    (after_kept opsT1_writes (VT0 V) main_v22 (by decide))).trans
    (after_kept opsT0_writes (VC V) main_v22 (by decide))).trans
    (after_kept opsC_writes (VB V) main_v22 (by decide))

/-- The stretches of the generator leave the gathered batch. -/
theorem keep_g : VD V (main_v29 : DevRef τ sig) = VB V (main_v29 : DevRef τ sig) :=
  (((((((after_kept opsD_writes (VT5 V) main_v29 (by decide)).trans
    (after_kept opsT5_writes (VT4 V) main_v29 (by decide))).trans
    (after_kept opsT4_writes (VT3 V) main_v29 (by decide))).trans
    (after_kept opsT3_writes (VT2 V) main_v29 (by decide))).trans
    (after_kept opsT2_writes (VT1 V) main_v29 (by decide))).trans
    (after_kept opsT1_writes (VT0 V) main_v29 (by decide))).trans
    (after_kept opsT0_writes (VC V) main_v29 (by decide))).trans
    (after_kept opsC_writes (VB V) main_v29 (by decide))

/-- The first stretch leaves the first argument. -/
theorem keepA_arg0 : VA V (main_arg0 : DevRef τ sig) = V (main_arg0 : DevRef τ sig) :=
  after_kept opsA_writes V main_arg0 (by decide)

/-- The stretches of the generator leave the first argument. -/
theorem keep_arg0 : VD V (main_arg0 : DevRef τ sig) = VA V (main_arg0 : DevRef τ sig) :=
  ((((((((after_kept opsD_writes (VT5 V) main_arg0 (by decide)).trans
    (after_kept opsT5_writes (VT4 V) main_arg0 (by decide))).trans
    (after_kept opsT4_writes (VT3 V) main_arg0 (by decide))).trans
    (after_kept opsT3_writes (VT2 V) main_arg0 (by decide))).trans
    (after_kept opsT2_writes (VT1 V) main_arg0 (by decide))).trans
    (after_kept opsT1_writes (VT0 V) main_arg0 (by decide))).trans
    (after_kept opsT0_writes (VC V) main_arg0 (by decide))).trans
    (after_kept opsC_writes (VB V) main_arg0 (by decide))).trans
    (after_kept opsB_writes (VA V) main_arg0 (by decide))

/-- Argument 0 ends as it began. -/
theorem arg0_eq : after ops V (main_arg0 : DevRef τ sig) = V (main_arg0 : DevRef τ sig) := by
  rw [after_ops]
  exact (after_kept opsE_writes (VD V) main_arg0 (by decide)).trans ((keep_arg0 V).trans (keepA_arg0 V))

/-- The first stretch leaves the second argument. -/
theorem keepA_arg1 : VA V (main_arg1 : DevRef τ sig) = V (main_arg1 : DevRef τ sig) :=
  after_kept opsA_writes V main_arg1 (by decide)

/-- The stretches of the generator leave the second argument. -/
theorem keep_arg1 : VD V (main_arg1 : DevRef τ sig) = VA V (main_arg1 : DevRef τ sig) :=
  ((((((((after_kept opsD_writes (VT5 V) main_arg1 (by decide)).trans
    (after_kept opsT5_writes (VT4 V) main_arg1 (by decide))).trans
    (after_kept opsT4_writes (VT3 V) main_arg1 (by decide))).trans
    (after_kept opsT3_writes (VT2 V) main_arg1 (by decide))).trans
    (after_kept opsT2_writes (VT1 V) main_arg1 (by decide))).trans
    (after_kept opsT1_writes (VT0 V) main_arg1 (by decide))).trans
    (after_kept opsT0_writes (VC V) main_arg1 (by decide))).trans
    (after_kept opsC_writes (VB V) main_arg1 (by decide))).trans
    (after_kept opsB_writes (VA V) main_arg1 (by decide))

/-- Argument 1 ends as it began. -/
theorem arg1_eq : after ops V (main_arg1 : DevRef τ sig) = V (main_arg1 : DevRef τ sig) := by
  rw [after_ops]
  exact (after_kept opsE_writes (VD V) main_arg1 (by decide)).trans ((keep_arg1 V).trans (keepA_arg1 V))

/-- The first stretch leaves the third argument. -/
theorem keepA_arg2 : VA V (main_arg2 : DevRef τ sig) = V (main_arg2 : DevRef τ sig) :=
  after_kept opsA_writes V main_arg2 (by decide)

/-- The stretches of the generator leave the third argument. -/
theorem keep_arg2 : VD V (main_arg2 : DevRef τ sig) = VA V (main_arg2 : DevRef τ sig) :=
  ((((((((after_kept opsD_writes (VT5 V) main_arg2 (by decide)).trans
    (after_kept opsT5_writes (VT4 V) main_arg2 (by decide))).trans
    (after_kept opsT4_writes (VT3 V) main_arg2 (by decide))).trans
    (after_kept opsT3_writes (VT2 V) main_arg2 (by decide))).trans
    (after_kept opsT2_writes (VT1 V) main_arg2 (by decide))).trans
    (after_kept opsT1_writes (VT0 V) main_arg2 (by decide))).trans
    (after_kept opsT0_writes (VC V) main_arg2 (by decide))).trans
    (after_kept opsC_writes (VB V) main_arg2 (by decide))).trans
    (after_kept opsB_writes (VA V) main_arg2 (by decide))

/-- Argument 2 ends as it began. -/
theorem arg2_eq : after ops V (main_arg2 : DevRef τ sig) = V (main_arg2 : DevRef τ sig) := by
  rw [after_ops]
  exact (after_kept opsE_writes (VD V) main_arg2 (by decide)).trans ((keep_arg2 V).trans (keepA_arg2 V))

/-- The position of an element in the batch, as a number. -/
def pos (i : S4096x512x4x4.Idx) : Nat := 8192 * (i 0).val + 16 * (i 1).val + 4 * (i 2).val + (i 3).val

/-- A position is below 2^32. -/
theorem pos_lt (i : S4096x512x4x4.Idx) : pos i < 2 ^ 32 := by
  have h0 : (i 0).val < 4096 := (i 0).isLt
  have h1 : (i 1).val < 512 := (i 1).isLt
  have h2 : (i 2).val < 4 := (i 2).isLt
  have h3 : (i 3).val < 4 := (i 3).isLt
  unfold pos; omega

/-- The position's 64-bit word is the position's number. -/
theorem refPos_eq (i : S4096x512x4x4.Idx) : refPos i = BitVec.ofNat 64 (pos i) := by
  unfold refPos pos
  apply BitVec.eq_of_toNat_eq
  simp [BitVec.toNat_add, BitVec.toNat_mul]

/-- The low word of a position is the position, -/
theorem refPos_lo (i : S4096x512x4x4.Idx) : (refPos i).setWidth 32 = BitVec.ofNat 32 (pos i) := by
  rw [refPos_eq]
  apply BitVec.eq_of_toNat_eq
  have := pos_lt i
  simp only [BitVec.toNat_setWidth, BitVec.toNat_ofNat]
  omega

/-- its high word zero. -/
theorem refPos_hi (i : S4096x512x4x4.Idx) : (refPos i >>> 32#64).setWidth 32 = 0#32 := by
  rw [refPos_eq]
  apply BitVec.eq_of_toNat_eq
  have := pos_lt i
  simp only [BitVec.toNat_setWidth, BitVec.toNat_ofNat, BitVec.ushiftRight_eq', BitVec.toNat_ushiftRight, Nat.shiftRight_eq_div_pow]
  rw [show (32 % 2 ^ 64 : Nat) = 32 from rfl]
  omega

/-- The generator's word at each element. -/
def refBits (i : S4096x512x4x4.Idx) : W := drawW (BitVec.ofNat 32 (pos i))

/-- The state before the rounds, and after each group. -/
abbrev st0 (i : S4096x512x4x4.Idx) : W × W := (0#32 + 0#32, BitVec.ofNat 32 (pos i) + 42#32)
/-- The generator's pair of words after the first group of four rounds. -/
abbrev st1 (i : S4096x512x4x4.Idx) : W × W := inj 42#32 ks2 1#32 (grpA (st0 i))
/-- The generator's pair of words after the second group of four rounds. -/
abbrev st2 (i : S4096x512x4x4.Idx) : W × W := inj ks2 0#32 2#32 (grpB (st1 i))
/-- The generator's pair of words after the third group of four rounds. -/
abbrev st3 (i : S4096x512x4x4.Idx) : W × W := inj 0#32 42#32 3#32 (grpA (st2 i))
/-- The generator's pair of words after the fourth group of four rounds. -/
abbrev st4 (i : S4096x512x4x4.Idx) : W × W := inj 42#32 ks2 4#32 (grpB (st3 i))
/-- The generator's pair of words after the fifth group of four rounds. -/
abbrev st5 (i : S4096x512x4x4.Idx) : W × W := inj ks2 0#32 5#32 (grpA (st4 i))

/-- The third key word is that of the keys 0 and 42. -/
theorem atT0_k2 : VT0 V (main_call1_call0_call0_v1 : DevRef τ sig) = fun _ => ks2 := by
  refine (readT0_k2 (VC V)).trans ?_
  rw [show VC V (main_call1_call0_v5 : DevRef τ sig) = fun _ => 0#32 from readC_k0 (VB V),
    show VC V (main_call1_call0_v7 : DevRef τ sig) = fun _ => 42#32 from readC_k1 (VB V)]
  rfl

/-- After stretch `opsT0` the first words are those of `st0`. -/
theorem atT0_x : VT0 V (main_call1_call0_call0_v3 : DevRef τ sig) = fun i => (st0 i).1 := by
  refine (readT0_x (VC V)).trans ?_
  rw [show VC V (main_call1_call0_v5 : DevRef τ sig) = fun _ => 0#32 from readC_k0 (VB V),
    show VC V (main_call1_call0_v26 : DevRef τ sig) = fun i => (refPos i >>> 32#64).setWidth 32 from readC_hi (VB V)]
  funext i
  show (refPos i >>> 32#64).setWidth 32 + 0#32 = 0#32 + 0#32
  rw [refPos_hi]

/-- After stretch `opsT0` the second words are those of `st0`. -/
theorem atT0_y : VT0 V (main_call1_call0_call0_v5 : DevRef τ sig) = fun i => (st0 i).2 := by
  refine (readT0_y (VC V)).trans ?_
  rw [show VC V (main_call1_call0_v7 : DevRef τ sig) = fun _ => 42#32 from readC_k1 (VB V),
    show VC V (main_call1_call0_v25 : DevRef τ sig) = fun i => (refPos i).setWidth 32 from readC_lo (VB V)]
  funext i
  show (refPos i).setWidth 32 + 42#32 = BitVec.ofNat 32 (pos i) + 42#32
  rw [refPos_lo]

/-- After stretch `opsT1` the first words are those of `st1`. -/
theorem atT1_x : VT1 V (main_call1_call0_call0_v35 : DevRef τ sig) = fun i => (st1 i).1 := by
  refine (readT1_x (VT0 V)).trans ?_
  rw [show VT0 V (main_call1_call0_v7 : DevRef τ sig) = fun _ => 42#32 from (keepT0_k1 V).trans (readC_k1 (VB V)),
    show VT0 V (main_call1_call0_call0_v1 : DevRef τ sig) = fun _ => ks2 from atT0_k2 V,
    atT0_x V, atT0_y V]
  rfl

/-- After stretch `opsT1` the second words are those of `st1`. -/
theorem atT1_y : VT1 V (main_call1_call0_call0_v39 : DevRef τ sig) = fun i => (st1 i).2 := by
  refine (readT1_y (VT0 V)).trans ?_
  rw [show VT0 V (main_call1_call0_v7 : DevRef τ sig) = fun _ => 42#32 from (keepT0_k1 V).trans (readC_k1 (VB V)),
    show VT0 V (main_call1_call0_call0_v1 : DevRef τ sig) = fun _ => ks2 from atT0_k2 V,
    atT0_x V, atT0_y V]
  rfl

/-- After stretch `opsT2` the first words are those of `st2`. -/
theorem atT2_x : VT2 V (main_call1_call0_call0_v69 : DevRef τ sig) = fun i => (st2 i).1 := by
  refine (readT2_x (VT1 V)).trans ?_
  rw [show VT1 V (main_call1_call0_call0_v1 : DevRef τ sig) = fun _ => ks2 from (keepT1_k2 V).trans (atT0_k2 V),
    show VT1 V (main_call1_call0_v5 : DevRef τ sig) = fun _ => 0#32 from (keepT1_k0 V).trans (readC_k0 (VB V)),
    atT1_x V, atT1_y V]
  rfl

/-- After stretch `opsT2` the second words are those of `st2`. -/
theorem atT2_y : VT2 V (main_call1_call0_call0_v73 : DevRef τ sig) = fun i => (st2 i).2 := by
  refine (readT2_y (VT1 V)).trans ?_
  rw [show VT1 V (main_call1_call0_call0_v1 : DevRef τ sig) = fun _ => ks2 from (keepT1_k2 V).trans (atT0_k2 V),
    show VT1 V (main_call1_call0_v5 : DevRef τ sig) = fun _ => 0#32 from (keepT1_k0 V).trans (readC_k0 (VB V)),
    atT1_x V, atT1_y V]
  rfl

/-- After stretch `opsT3` the first words are those of `st3`. -/
theorem atT3_x : VT3 V (main_call1_call0_call0_v103 : DevRef τ sig) = fun i => (st3 i).1 := by
  refine (readT3_x (VT2 V)).trans ?_
  rw [show VT2 V (main_call1_call0_v5 : DevRef τ sig) = fun _ => 0#32 from (keepT2_k0 V).trans (readC_k0 (VB V)),
    show VT2 V (main_call1_call0_v7 : DevRef τ sig) = fun _ => 42#32 from (keepT2_k1 V).trans (readC_k1 (VB V)),
    atT2_x V, atT2_y V]
  rfl

/-- After stretch `opsT3` the second words are those of `st3`. -/
theorem atT3_y : VT3 V (main_call1_call0_call0_v107 : DevRef τ sig) = fun i => (st3 i).2 := by
  refine (readT3_y (VT2 V)).trans ?_
  rw [show VT2 V (main_call1_call0_v5 : DevRef τ sig) = fun _ => 0#32 from (keepT2_k0 V).trans (readC_k0 (VB V)),
    show VT2 V (main_call1_call0_v7 : DevRef τ sig) = fun _ => 42#32 from (keepT2_k1 V).trans (readC_k1 (VB V)),
    atT2_x V, atT2_y V]
  rfl

/-- After stretch `opsT4` the first words are those of `st4`. -/
theorem atT4_x : VT4 V (main_call1_call0_call0_v137 : DevRef τ sig) = fun i => (st4 i).1 := by
  refine (readT4_x (VT3 V)).trans ?_
  rw [show VT3 V (main_call1_call0_v7 : DevRef τ sig) = fun _ => 42#32 from (keepT3_k1 V).trans (readC_k1 (VB V)),
    show VT3 V (main_call1_call0_call0_v1 : DevRef τ sig) = fun _ => ks2 from (keepT3_k2 V).trans (atT0_k2 V),
    atT3_x V, atT3_y V]
  rfl

/-- After stretch `opsT4` the second words are those of `st4`. -/
theorem atT4_y : VT4 V (main_call1_call0_call0_v141 : DevRef τ sig) = fun i => (st4 i).2 := by
  refine (readT4_y (VT3 V)).trans ?_
  rw [show VT3 V (main_call1_call0_v7 : DevRef τ sig) = fun _ => 42#32 from (keepT3_k1 V).trans (readC_k1 (VB V)),
    show VT3 V (main_call1_call0_call0_v1 : DevRef τ sig) = fun _ => ks2 from (keepT3_k2 V).trans (atT0_k2 V),
    atT3_x V, atT3_y V]
  rfl

/-- After stretch `opsT5` the first words are those of `st5`. -/
theorem atT5_x : VT5 V (main_call1_call0_v27_0 : DevRef τ sig) = fun i => (st5 i).1 := by
  refine (readT5_x (VT4 V)).trans ?_
  rw [show VT4 V (main_call1_call0_call0_v1 : DevRef τ sig) = fun _ => ks2 from (keepT4_k2 V).trans (atT0_k2 V),
    show VT4 V (main_call1_call0_v5 : DevRef τ sig) = fun _ => 0#32 from (keepT4_k0 V).trans (readC_k0 (VB V)),
    atT4_x V, atT4_y V]
  rfl

/-- After stretch `opsT5` the second words are those of `st5`. -/
theorem atT5_y : VT5 V (main_call1_call0_v27_1 : DevRef τ sig) = fun i => (st5 i).2 := by
  refine (readT5_y (VT4 V)).trans ?_
  rw [show VT4 V (main_call1_call0_call0_v1 : DevRef τ sig) = fun _ => ks2 from (keepT4_k2 V).trans (atT0_k2 V),
    show VT4 V (main_call1_call0_v5 : DevRef τ sig) = fun _ => 0#32 from (keepT4_k0 V).trans (readC_k0 (VB V)),
    atT4_x V, atT4_y V]
  rfl

/-- The mask of the dropout. -/
def refKeep : CI S4096x512x4x4 .i1 :=
  refMask (broadcastInDim S1x1x1x1 ![] bcast_S_S1x1x1x1 (constant (F := Idealize.ShloMosaic.Ideal) S_ .f32 0x00000000#32))
    (broadcastInDim S1x1x1x1 ![] bcast_S_S1x1x1x1 (constant (F := Idealize.ShloMosaic.Ideal) S_ .f32 0x3F800000#32))
    (constant (F := Idealize.ShloMosaic.Ideal) S_ .f32 0x3F000000#32) refBits

/-- The mask's buffer holds the mask. -/
theorem atD_keep : VD V (main_v37 : DevRef τ sig) = refKeep := by
  refine (readD (VT5 V)).trans ?_
  rw [(keep_z V).trans (readC_z (VB V)), (keep_o V).trans (readC_o (VB V)), (keep_h V).trans (readC_h (VB V)),
    atT5_x V, atT5_y V]
  rfl

/-- The reference as one function of its arguments. -/
def refOut (x : CI S4096x512x4x4 .f32) (w : CI S1000x512 .f32) (b : CI S1000 .f32) : CI S4096x512x4x4 .f32 :=
  let k := refIdx (Host.negf (F := Idealize.ShloMosaic.Ideal) (φ := .f32) (refProb x w b))
  refScatter x k (refDrop refKeep (refGather x k))

/-- What the result's buffer holds after the run. -/
theorem out_eq : after ops V (main_v48 : DevRef τ sig) =
    refOut (V (main_arg0 : DevRef τ sig)) (V (main_arg1 : DevRef τ sig)) (V (main_arg2 : DevRef τ sig)) := by
  rw [after_ops]
  refine (readE (VD V)).trans ?_
  rw [atD_keep V, (keep_arg0 V).trans (keepA_arg0 V), (keep_idx V).trans (readB_idx (VA V)),
    (keep_g V).trans (readB_g (VA V)),
    show VA V (main_v19 : DevRef τ sig) = _ from readA V, keepA_arg0 V]
  rfl

/-! ## The run -/

/-- Nothing is scoped on this signature. -/
theorem scopedRefs_eq : (Finset.univ.filter fun b : Ref sig .tc => b.isScoped) = ∅ := by decide
/-- No semaphore is scoped on this signature. -/
theorem scopedSems_eq : (Finset.univ.filter fun sm : SemLoc sig => sm.isScoped .tc) = ∅ := by decide

/-- On its one device, from any memory with zero counters: every weakly fair execution of the reference terminates, and
    every final state has the result's buffer at `refOut` of the arguments' launch contents and the argument buffers
    holding what they held. -/
theorem run_main (m : (ℓ : Loc nD τ sig) → Buf (Elt Idealize.ShloMosaic.Ideal) ℓ) (ρ : Dev nD → PrngReg) :
    θ_run defs (onTc (τ := τ) (main (F := Idealize.ShloMosaic.Ideal))) ⟨m, fun _ => 0, ρ⟩ fun r =>
      ∀ c : Dev nD, r.2.mem ((c.tc : Thread nD τ).loc main_v48) = refOut (m ((c.tc : Thread nD τ).loc main_arg0))
          (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun _ h c => ⟨(h c main_v48).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ
      (fun _ => List.forall_iff_forall_mem.mp ops_fresh))

end Cert.Proof.Ref

end
-- ==== Proof.Kern.Run.lean ====
module

public import proofs.«01_k».proof.Proof.Gen.KernelIdeal.Frame

/-! The kernel's run with its result: what the launch leaves in the result array, as the contents the last host
stretch leaves there, the argument arrays unchanged. -/

@[expose] public section

noncomputable section

namespace Cert.Proof.Kern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the kernel ends with the result array at the contents the last host stretch leaves, and with the three
argument arrays as launched. -/
theorem run_result : θ_run defs (onTc (τ := τ) (main (F := F))) ⟨m, fun _ => 0, ρ⟩ (fun r => ∀ c : Dev nD,
      r.2.mem ((c.tc : Thread nD τ).loc main_v29) = W5 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨h c _ (mem_uc main_v29 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.Proof.Kern

end
-- ==== Proof.Kern.Host.lean ====
/-
  What the stretches of the kernel program around its two kernel functions compute: the scores of the first class as a
  row and as a column, the batch in the kernel's layout, and the result back in the batch's own layout.
-/
module

public import proofs.«01_k».proof.Proof.Gen.KernelIdeal.Frame
public import Idealize.ShloMosaic.PureOps.Ideal
public import Idealize.ShloMosaic.Lib.StableHlo.RunRead

@[expose] public section

noncomputable section

namespace Cert.Proof.Kern

open Cert.KernelIdeal Cert.KernelIdeal.Gen
open Idealize.ShloMosaic Idealize.ShloMosaic.TcCoe Idealize.ShloMosaic.StableHlo Idealize.SL.Sem

/-- The contents of an array over the extended reals. -/
abbrev KI (s : Shape) (e : EltTy) : Type := (⟨s, e⟩ : BufTy).Contents (Elt Idealize.ShloMosaic.Ideal)

/-- The mean over the last two axes. -/
def kerMean (x : KI S4096x512x4x4 .f32) : KI S4096x512 .f32 :=
  Host.divf (F := Idealize.ShloMosaic.Ideal) (φ := .f32)
    (Host.reduceAdd x (constant S_ .f32 0x00000000#32) reducesTo_S4096x512x4x4_S4096x512_d2_3 h_S_)
    (broadcastInDim S4096x512 ![] bcast_S_S4096x512 (constant S_ .f32 0x41800000#32))

/-- The logits, one column per batch element. -/
def kerLogits (x : KI S4096x512x4x4 .f32) (w : KI S1000x512 .f32) (b : KI S1000 .f32) : KI S1000x4096 .f32 :=
  addf (F := Idealize.ShloMosaic.Ideal) (φ := .f32)
    (Host.dotGeneral (F := Idealize.ShloMosaic.Ideal) (φ₁ := .f32) (φ₂ := .f32) dot_S1000x512_S4096x512_S1000x4096_1_1_0_0_n_n none w (kerMean x))
    (broadcastInDim S1000x4096 ![0, 1] bcast_S1000x1_S1000x4096_0_1 (broadcastInDim S1000x1 ![0] bcast_S1000_S1000x1_0 b))

/-- The largest logit of each column. -/
def kerMax (l : KI S1000x4096 .f32) : KI S4096 .f32 :=
  maximumf (F := Idealize.ShloMosaic.Ideal) (φ := .f32)
    (broadcastInDim S4096 ![] bcast_S_S4096 (constant S_ .f32 0xFF800000#32))
    (Host.reduce FloatOps.maximumf l (constant S_ .f32 0xFF800000#32) reducesTo_S1000x4096_S4096_d0 h_S_)

/-- The exponentials of the logits less their column's largest. -/
def kerExp (l : KI S1000x4096 .f32) : KI S1000x4096 .f32 :=
  Host.exp (F := Idealize.ShloMosaic.Ideal) (φ := .f32)
    (subf l (broadcastInDim S1000x4096 ![0, 1] bcast_S1x4096_S1000x4096_0_1
      (broadcastInDim S1x4096 ![1] bcast_S4096_S1x4096_1 (kerMax l))))

/-- The exponentials over their column's sum. -/
def kerSoft (e : KI S1000x4096 .f32) : KI S1000x4096 .f32 :=
  Host.divf (F := Idealize.ShloMosaic.Ideal) (φ := .f32) e
    (broadcastInDim S1000x4096 ![0, 1] bcast_S1x4096_S1000x4096_0_1
      (broadcastInDim S1x4096 ![1] bcast_S4096_S1x4096_1
        (Host.reduceAdd e (constant S_ .f32 0x00000000#32) reducesTo_S1000x4096_S4096_d0 h_S_)))

/-- The probabilities. -/
def kerProb (x : KI S4096x512x4x4 .f32) (w : KI S1000x512 .f32) (b : KI S1000 .f32) : KI S1000x4096 .f32 :=
  kerSoft (kerExp (kerLogits x w b))

/-- The probabilities of the first class. -/
def kerRow (p : KI S1000x4096 .f32) : KI S4096 .f32 :=
  shapeCast S4096 (extractStridedSlice S1x4096 ![0, 0] p slices_S1000x4096_S1x4096_0_0) shapeCasts_S1x4096_S4096

/-- The batch in the kernel's layout. -/
def kerIn (x : KI S4096x512x4x4 .f32) : KI S4096x4x16x128 .f32 :=
  shapeCast S4096x4x16x128 (transpose S4096x4x2x2x4x128 [0, 4, 1, 2, 5, 3]
    (shapeCast S4096x2x2x128x4x4 x shapeCasts_S4096x512x4x4_S4096x2x2x128x4x4)
    transposes_S4096x2x2x128x4x4_S4096x4x2x2x4x128_0_4_1_2_5_3) shapeCasts_S4096x4x2x2x4x128_S4096x4x16x128

/-- An array of the kernel's layout in the batch's own. -/
def kerBack (y : KI S4096x4x16x128 .f32) : KI S4096x512x4x4 .f32 :=
  shapeCast S4096x512x4x4 (transpose S4096x2x2x128x4x4 [0, 2, 3, 5, 1, 4]
    (shapeCast S4096x4x2x2x4x128 y shapeCasts_S4096x4x16x128_S4096x4x2x2x4x128)
    transposes_S4096x4x2x2x4x128_S4096x2x2x128x4x4_0_2_3_5_1_4) shapeCasts_S4096x2x2x128x4x4_S4096x512x4x4

variable (V : Valuation τ sig (Elt Idealize.ShloMosaic.Ideal))

/-- The first stretch leaves the probabilities of the first class as a row, -/
theorem read0_row : after hostOps0 V (main_v20 : DevRef τ sig) =
    shapeCast S1x4096 (kerRow (kerProb (V (main_arg0 : DevRef τ sig)) (V (main_arg1 : DevRef τ sig)) (V (main_arg2 : DevRef τ sig)))) shapeCasts_S4096_S1x4096 := by
  after_reads_simp <;> rfl

/-- and as a column. -/
theorem read0_col : after hostOps0 V (main_v21 : DevRef τ sig) =
    shapeCast S4096x1 (kerRow (kerProb (V (main_arg0 : DevRef τ sig)) (V (main_arg1 : DevRef τ sig)) (V (main_arg2 : DevRef τ sig)))) shapeCasts_S4096_S4096x1 := by
  after_reads_simp <;> rfl

/-- The second leaves the batch in the kernel's layout. -/
theorem read1 : after hostOps1 V (main_v25 : DevRef τ sig) = kerIn (V (main_arg0 : DevRef τ sig)) := by
  after_reads_simp <;> rfl

/-- The last leaves the result. -/
theorem read2 : after hostOps2 V (main_v29 : DevRef τ sig) = kerBack (V (main_v26 : DevRef τ sig)) := by
  after_reads_simp <;> rfl

end Cert.Proof.Kern

end
-- ==== Proof.Kern.Draw.lean ====
/-
  The kernel's generator, lane by lane: the payloads of one trip's twenty rounds, on sixteen rows at once, are the cipher
  on the words of each lane.
-/
module

public import proofs.«01_k».proof.Proof.Gen.KernelIdeal.Skeleton
public import proofs.«01_k».proof.Proof.Pure.Words

@[expose] public section

noncomputable section

namespace Cert.Proof.Kern

open Cert.KernelIdeal Cert.KernelIdeal.Gen
open Idealize.ShloMosaic

variable {F : FTy → Type} [FloatOps F]

/-- A round with the rotated word first in the exclusive or. -/
def stepK (a b : W) (p : W × W) : W × W := (p.1 + p.2, rot a b p.2 ^^^ (p.1 + p.2))

/-- A key injection with the second word's two addends in one. -/
def injK (k k' : W) (p : W × W) : W × W := (p.1 + k, p.2 + k')

/-- A round does not depend on the order of its exclusive or. -/
theorem stepK_eq (a b : W) (p : W × W) : stepK a b p = step a b p := by
  unfold stepK step; rw [BitVec.xor_comm]

/-- An injection does not depend on how its addends are grouped. -/
theorem injK_eq (k k' c : W) (p : W × W) : injK k (k' + c) p = inj k k' c p := by
  unfold injK inj; rw [BitVec.add_assoc]

/-- Sixteen rows of lanes. -/
abbrev Lanes : Type := IVec S16x4x16x128 32

/-- The rounds up to the middle of the second group: from a state whose sum and shifted second word are at hand, through
    the end of the first group, an injection, a second group and an injection, to the next round's sum and shifts. -/
theorem part5 (a b c : Lanes) (y : S16x4x16x128.Idx) (s : W × W) (ha : a y = s.2) (hb : b y = s.1 + s.2) (hc : c y = s.2 <<< 6#32)
    (t : W × W)
    (ht : t = injK 466689008#32 2#32 (stepK 24#32 8#32 (stepK 16#32 16#32 (stepK 29#32 3#32 (stepK 17#32 15#32
      (injK 42#32 466689009#32 (stepK 6#32 26#32 s))))))) :
    k1_pay33 a b c y = t.1 + t.2 ∧ k1_pay34 a b c y = t.2 <<< 13#32 ∧ k1_pay35 a b c y = t.2 >>> 19#32 := by
  have e0 : ((b y + 42#32, k1_pay24 a b c y) : W × W) = injK 42#32 466689009#32 (stepK 6#32 26#32 s) := by
    show ((b y + 42#32, ((c y ||| a y >>> 26#32) ^^^ b y) + 466689009#32) : W × W) = _
    rw [ha, hb, hc]; rfl
  have e1 : ((k1_pay25 a b c y, k1_pay26 a b c y) : W × W) = stepK 17#32 15#32 (b y + 42#32, k1_pay24 a b c y) := rfl
  have e2 : ((k1_pay27 a b c y, k1_pay28 a b c y) : W × W) = stepK 29#32 3#32 (k1_pay25 a b c y, k1_pay26 a b c y) := rfl
  have e3 : ((k1_pay29 a b c y, k1_pay30 a b c y) : W × W) = stepK 16#32 16#32 (k1_pay27 a b c y, k1_pay28 a b c y) := rfl
  have e4 : ((k1_pay31 a b c y + 466689008#32, k1_pay32 a b c y) : W × W)
      = injK 466689008#32 2#32 (stepK 24#32 8#32 (k1_pay29 a b c y, k1_pay30 a b c y)) := rfl
  rw [e3, e2, e1, e0, ← ht] at e4
  rw [← e4]
  exact ⟨rfl, rfl, rfl⟩

/-- The rounds of the third group, an injection and the fourth group's first two rounds. -/
theorem part6 (a b c : Lanes) (y : S16x4x16x128.Idx) (s : W × W) (ha : a y = s.1 + s.2) (hb : b y = s.2 <<< 13#32)
    (hc : c y = s.2 >>> 19#32) (t : W × W)
    (ht : t = stepK 29#32 3#32 (stepK 17#32 15#32 (injK 0#32 45#32 (stepK 6#32 26#32 (stepK 26#32 6#32 (stepK 15#32 17#32
      (stepK 13#32 19#32 s))))))) :
    k1_pay47 a b c y = t.1 + t.2 ∧ k1_pay48 a b c y = t.2 <<< 16#32 ∧ k1_pay49 a b c y = t.2 >>> 16#32 := by
  have e0 : ((a y, k1_pay36 a b c y) : W × W) = stepK 13#32 19#32 s := by
    show ((a y, (b y ||| c y) ^^^ a y) : W × W) = _
    rw [ha, hb, hc]; rfl
  have e1 : ((k1_pay37 a b c y, k1_pay38 a b c y) : W × W) = stepK 15#32 17#32 (a y, k1_pay36 a b c y) := rfl
  have e2 : ((k1_pay39 a b c y, k1_pay40 a b c y) : W × W) = stepK 26#32 6#32 (k1_pay37 a b c y, k1_pay38 a b c y) := rfl
  have e3 : ((k1_pay41 a b c y + 0#32, k1_pay42 a b c y) : W × W)
      = injK 0#32 45#32 (stepK 6#32 26#32 (k1_pay39 a b c y, k1_pay40 a b c y)) := rfl
  have e4 : ((k1_pay43 a b c y, k1_pay44 a b c y) : W × W)
      = stepK 17#32 15#32 (k1_pay41 a b c y + 0#32, k1_pay42 a b c y) := rfl
  have e5 : ((k1_pay45 a b c y, k1_pay46 a b c y) : W × W) = stepK 29#32 3#32 (k1_pay43 a b c y, k1_pay44 a b c y) := rfl
  rw [e4, e3, e2, e1, e0, ← ht] at e5
  rw [← e5]
  exact ⟨rfl, rfl, rfl⟩

/-- The last rounds and injections and the two words' exclusive or. -/
theorem part7 (a b c : Lanes) (y : S16x4x16x128.Idx) (s : W × W) (ha : a y = s.1 + s.2) (hb : b y = s.2 <<< 16#32)
    (hc : c y = s.2 >>> 16#32) (t : W × W)
    (ht : t = injK 466689008#32 5#32 (stepK 6#32 26#32 (stepK 26#32 6#32 (stepK 15#32 17#32
      (stepK 13#32 19#32 (injK 42#32 466689012#32 (stepK 24#32 8#32 (stepK 16#32 16#32 s)))))))) :
    k1_pay50 a b c y = t.1 ^^^ t.2 := by
  have e0 : ((a y, (b y ||| c y) ^^^ a y) : W × W) = stepK 16#32 16#32 s := by
    rw [ha, hb, hc]; rfl
  rw [ht, ← e0]
  rfl

/-- The first rounds, from the counters `x` (the first word is 0). -/
theorem part4 (x : Lanes) (y : S16x4x16x128.Idx) {v22 v31 v39 v47 v55 v63 v71 v79 v87 v95 v103 v111 v119 v127 : IVec S1x4x16x128 32}
    {v132 w : BitVec 32} {v139 v147 : Elt F .i32}
    (hx : x = k1_pay16 (F := F) v22 v31 v39 v47 v55 v63 v71 v79 v87 v95 v103 v111 v119 v127 v132 w v139 v147) (s : W × W)
    (hs : s = stepK 26#32 6#32 (stepK 15#32 17#32 (stepK 13#32 19#32 (0#32, x y)))) :
    k1_pay21 (F := F) v22 v31 v39 v47 v55 v63 v71 v79 v87 v95 v103 v111 v119 v127 v132 w v139 v147 y = s.2
    ∧ k1_pay22 (F := F) v22 v31 v39 v47 v55 v63 v71 v79 v87 v95 v103 v111 v119 v127 v132 w v139 v147 y = s.1 + s.2
    ∧ k1_pay23 (F := F) v22 v31 v39 v47 v55 v63 v71 v79 v87 v95 v103 v111 v119 v127 v132 w v139 v147 y = s.2 <<< 6#32 := by
  have e0 : stepK 13#32 19#32 (0#32, x y) = (x y, rot 13#32 19#32 (x y) ^^^ x y) := by
    unfold stepK; simp only [BitVec.zero_add]
  rw [e0] at hs
  have e1 : s = (k1_pay20 (F := F) v22 v31 v39 v47 v55 v63 v71 v79 v87 v95 v103 v111 v119 v127 v132 w v139 v147 y,
      k1_pay21 (F := F) v22 v31 v39 v47 v55 v63 v71 v79 v87 v95 v103 v111 v119 v127 v132 w v139 v147 y) := by
    rw [hs, hx]; rfl
  rw [e1]
  exact ⟨rfl, rfl, rfl⟩

/-- The draw of sixteen rows at the counters `x`, lane by lane: the cipher at the lane's counter, the counter given with
    the second key word already added. -/
theorem draw_lane (x : Lanes) (y : S16x4x16x128.Idx) {v22 v31 v39 v47 v55 v63 v71 v79 v87 v95 v103 v111 v119 v127 : IVec S1x4x16x128 32}
    {v132 w : BitVec 32} {v139 v147 : Elt F .i32}
    (hx : x = k1_pay16 (F := F) v22 v31 v39 v47 v55 v63 v71 v79 v87 v95 v103 v111 v119 v127 v132 w v139 v147)
    {a5 b5 c5 a6 b6 c6 a7 b7 c7 : Lanes}
    (ha5 : a5 = k1_pay21 (F := F) v22 v31 v39 v47 v55 v63 v71 v79 v87 v95 v103 v111 v119 v127 v132 w v139 v147)
    (hb5 : b5 = k1_pay22 (F := F) v22 v31 v39 v47 v55 v63 v71 v79 v87 v95 v103 v111 v119 v127 v132 w v139 v147)
    (hc5 : c5 = k1_pay23 (F := F) v22 v31 v39 v47 v55 v63 v71 v79 v87 v95 v103 v111 v119 v127 v132 w v139 v147)
    (ha6 : a6 = k1_pay33 a5 b5 c5) (hb6 : b6 = k1_pay34 a5 b5 c5) (hc6 : c6 = k1_pay35 a5 b5 c5)
    (ha7 : a7 = k1_pay47 a6 b6 c6) (hb7 : b7 = k1_pay48 a6 b6 c6) (hc7 : c7 = k1_pay49 a6 b6 c6)
    (n : W) (hn : x y = n + 42#32) :
    k1_pay50 a7 b7 c7 y = drawW n := by
  obtain ⟨h1, h2, h3⟩ := part4 x y hx _ rfl
  rw [← ha5] at h1; rw [← hb5] at h2; rw [← hc5] at h3
  obtain ⟨h4, h5, h6⟩ := part5 a5 b5 c5 y _ h1 h2 h3 _ rfl
  rw [← ha6] at h4; rw [← hb6] at h5; rw [← hc6] at h6
  obtain ⟨h7, h8, h9⟩ := part6 a6 b6 c6 y _ h4 h5 h6 _ rfl
  rw [← ha7] at h7; rw [← hb7] at h8; rw [← hc7] at h9
  rw [part7 a7 b7 c7 y _ h7 h8 h9 _ rfl, hn]
  have i1 : ∀ p, injK 42#32 466689009#32 p = inj 42#32 ks2 1#32 p := fun p => injK_eq 42#32 ks2 1#32 p
  have i2 : ∀ p, injK 466689008#32 2#32 p = inj ks2 0#32 2#32 p := fun p => injK_eq ks2 0#32 2#32 p
  have i3 : ∀ p, injK 0#32 45#32 p = inj 0#32 42#32 3#32 p := fun p => injK_eq 0#32 42#32 3#32 p
  have i4 : ∀ p, injK 42#32 466689012#32 p = inj 42#32 ks2 4#32 p := fun p => injK_eq 42#32 ks2 4#32 p
  have i5 : ∀ p, injK 466689008#32 5#32 p = inj ks2 0#32 5#32 p := fun p => injK_eq ks2 0#32 5#32 p
  simp only [stepK_eq, i1, i2, i3, i4, i5]
  rfl

end Cert.Proof.Kern

end
-- ==== Proof.Pure.Index.lean ====
/-
  Indices of rank two and four from their coordinates.
-/
module

public import Idealize.ShloMosaic.PureOps

@[expose] public section

namespace Cert.Proof

open Idealize.ShloMosaic

/-- The index of a rank-one shape at its coordinate. -/
def ix1 {n0 : ℕ} (a : Fin n0) : (⟨1, ![n0]⟩ : Shape).Idx
  | ⟨0, _⟩ => a

/-- A rank-one index is the one at its coordinate. -/
theorem ix1_eta {n0 : ℕ} (j : (⟨1, ![n0]⟩ : Shape).Idx) : ix1 (j 0) = j := by
  funext b; fin_cases b; rfl

/-- The index of a rank-two shape at two coordinates. -/
def ix2 {n0 n1 : ℕ} (a : Fin n0) (b : Fin n1) : (⟨2, ![n0, n1]⟩ : Shape).Idx
  | ⟨0, _⟩ => a
  | ⟨1, _⟩ => b

/-- The index of a rank-four shape at four coordinates. -/
def ix4 {n0 n1 n2 n3 : ℕ} (a : Fin n0) (b : Fin n1) (c : Fin n2) (d : Fin n3) : (⟨4, ![n0, n1, n2, n3]⟩ : Shape).Idx
  | ⟨0, _⟩ => a
  | ⟨1, _⟩ => b
  | ⟨2, _⟩ => c
  | ⟨3, _⟩ => d

/-- A rank-two index is the one at its coordinates. -/
theorem ix2_eta {n0 n1 : ℕ} (j : (⟨2, ![n0, n1]⟩ : Shape).Idx) : ix2 (j 0) (j 1) = j := by
  funext b; fin_cases b <;> rfl

/-- A rank-four index is the one at its coordinates. -/
theorem ix4_eta {n0 n1 n2 n3 : ℕ} (j : (⟨4, ![n0, n1, n2, n3]⟩ : Shape).Idx) : ix4 (j 0) (j 1) (j 2) (j 3) = j := by
  funext b; fin_cases b <;> rfl

end Cert.Proof

end
-- ==== Proof.Kern.Trip.lean ====
/-
  One block of the second kernel function: what its sixteen trips leave in the block of the result, lane by lane, from the
  block of ranks and the block of the array.
-/
module

public import proofs.«01_k».proof.Proof.Gen.KernelIdeal.Frame
public import proofs.«01_k».proof.Proof.Kern.Draw
public import proofs.«01_k».proof.Proof.Pure.Index
public import Idealize.ShloMosaic.Lib.Pipeline.ValueKit

@[expose] public section

noncomputable section

namespace Cert.Proof.Kern

open Cert.KernelIdeal Cert.KernelIdeal.Gen
open Idealize.ShloMosaic Idealize.ShloMosaic.TcCoe Idealize.ShloMosaic.Tactic

variable {F : FTy → Type} [FloatOps F]

/-- The place of a lane in its row of the generator's counters. -/
def offN (a r l : ℕ) : ℕ := 4096 * (r / 8) + 2048 * (r / 4 % 2) + 16 * l + 4 * a + r % 4

/-- The kernel's lane offsets are `offN`. -/
theorem pay1_all (a : Fin 4) (r : Fin 16) (l : Fin 128) :
    k1_pay1 (ix4 0 a r l) = BitVec.ofNat 32 (offN a r l) := by
  have io : ∀ (d : Fin 4) (h : S1x4x16x128.Iotas .tc 32 [d]), iota .tc S1x4x16x128 32 [d] h
      = fun j => BitVec.ofNat 32 (j d).val := fun d h => funext fun j => by
    show BitVec.ofNat 32 (0 * _ + (j d).val) = _
    rw [Nat.zero_mul, Nat.zero_add]
  have h : k1_pay1 (ix4 0 a r l) = (((BitVec.ofNat 32 r.val).sshiftRight' 3#32 <<< 12#32
      + ((BitVec.ofNat 32 r.val).sshiftRight' 2#32 &&& 1#32) <<< 11#32) + BitVec.ofNat 32 l.val <<< 4#32
      + BitVec.ofNat 32 a.val <<< 2#32) + (BitVec.ofNat 32 r.val &&& 3#32) := by
    unfold k1_pay1
    dsimp only
    rw [io 1, io 2, io 3]
    rfl
  have hr : ∀ r : Fin 16, (BitVec.ofNat 32 r.val).sshiftRight' 3#32 <<< 12#32
      + ((BitVec.ofNat 32 r.val).sshiftRight' 2#32 &&& 1#32) <<< 11#32
      = BitVec.ofNat 32 (4096 * (r.val / 8) + 2048 * (r.val / 4 % 2)) := by decide +kernel
  have hr' : ∀ r : Fin 16, BitVec.ofNat 32 r.val &&& 3#32 = BitVec.ofNat 32 (r.val % 4) := by decide +kernel
  have hl : ∀ l : Fin 128, BitVec.ofNat 32 l.val <<< 4#32 = BitVec.ofNat 32 (16 * l.val) := by decide +kernel
  have ha : ∀ a : Fin 4, BitVec.ofNat 32 a.val <<< 2#32 = BitVec.ofNat 32 (4 * a.val) := by decide +kernel
  rw [h, hr, hr', hl, ha]
  simp only [← BitVec.ofNat_add]
  rfl

/-- The kernel's lane offsets at any index. -/
theorem pay1_apply (j : S1x4x16x128.Idx) : k1_pay1 j = BitVec.ofNat 32 (offN (j 1) (j 2) (j 3)) := by
  rw [← pay1_all (j 1) (j 2) (j 3)]
  congr 1
  rw [← ix4_eta (n0 := 1) (n1 := 4) (n2 := 16) (n3 := 128) j]
  congr 1
  exact Fin.ext (by have := (j 0).isLt; change _ < 1 at this; show (j 0 : ℕ) = 0; omega)

/-- The row a trip's load of the ranks reads. -/
theorem off1_all : ∀ (k : Fin k1_t1_loop.trips) (r : Fin 16),
    k1_off1 k (BitVec.ofNat 32 r.val) 0 = 16 * k.val + r.val ∧ k1_off1 k (BitVec.ofNat 32 r.val) 1 = 0 := by
  decide +kernel

/-- The rows a trip loads and stores. -/
theorem off2_all : ∀ (k : Fin k1_t1_loop.trips),
    k1_off2 k 0 = 16 * k.val ∧ k1_off2 k 1 = 0 ∧ k1_off2 k 2 = 0 ∧ k1_off2 k 3 = 0 := by
  decide +kernel

/-- There are sixteen trips. -/
theorem trips_eq : k1_t1_loop.trips = 16 := by decide +kernel

/-- The row of the block that trip `k`'s row `r` is. -/
def rowAt (k : Fin k1_t1_loop.trips) (r : Fin 16) : Fin 256 :=
  ⟨16 * k.val + r.val, by have := k.isLt; have := r.isLt; have := trips_eq; omega⟩

/-- The rank a trip loads for its row `r`. -/
theorem load_rank (arg1 : Memref sig .tc .smem S256x1 .i32) (harg1 : arg1.IsWhole) (x0 : Vec F S256x1 .i32)
    (k : Fin k1_t1_loop.trips) (r : Fin 16) (inb) (i) :
    View.readAt (Elt F) arg1.view (Rect.unit (s := S256x1) (k1_off1 k (BitVec.ofNat 32 r.val)) S1x1.size inb).toLoadRect
      (harg1.unread x0) i = x0 (ix2 (rowAt k r) 0) := by
  rw [View.readAt_eq_ld, harg1.read_unread]
  refine View.ld_unit_apply_of _ _ _ _ _ _ fun a => ?_
  obtain ⟨h0, h1⟩ := off1_all k r
  have hi : ∀ b : Fin 2, (i b).val = 0 := fun b => by
    have := (i b).isLt
    fin_cases b
    · change _ < 1 at this; show (i 0).val = 0; exact Nat.lt_one_iff.mp this
    · change _ < 1 at this; show (i 1).val = 0; exact Nat.lt_one_iff.mp this
  fin_cases a
  · show (rowAt k r).val = k1_off1 k (BitVec.ofNat 32 r.val) 0 + (i 0).val
    rw [h0, hi 0]; rfl
  · show 0 = k1_off1 k (BitVec.ofNat 32 r.val) 1 + (i 1).val
    rw [h1, hi 1]

/-- The rank word of a trip's row `r`. -/
def rankOf (x0 : Vec F S256x1 .i32) (k : Fin k1_t1_loop.trips) (r : Fin 16) : W := x0 (ix2 (rowAt k r) 0)

/-- The counters of a trip's row `r`: its rank's first counter, 42 and the lane's offset. -/
def rowCtr (x0 : Vec F S256x1 .i32) (k : Fin k1_t1_loop.trips) (r : Fin 16) : IVec S1x4x16x128 32 :=
  fun j => (rankOf x0 k r <<< 13#32 + 42#32) + k1_pay1 j

/-- The sixteen rows' counters, row by row. -/
theorem ctr_lane (arg1 : Memref sig .tc .smem S256x1 .i32) (harg1 : arg1.IsWhole) (x0 : Vec F S256x1 .i32)
    (k : Fin k1_t1_loop.trips) (y : S16x4x16x128.Idx) :
    trip_k1_t1.sl.v152 arg1 (harg1.unread x0) k y
      = (rankOf x0 k (y 0) <<< 13#32 + BitVec.ofNat 32 (offN (y 1) (y 2) (y 3))) + 42#32 := by
  have hrow : ∀ (r : Fin 16) (inb) (i),
      (addi (broadcast S1x4x16x128 (Scalar.addi (Scalar.shli (View.readAt (Elt F) arg1.view
        (Rect.unit (s := S256x1) (k1_off1 k (BitVec.ofNat 32 r.val)) S1x1.size inb).toLoadRect (harg1.unread x0) i) 13#32) 42#32))
        k1_pay1 : IVec S1x4x16x128 32) = rowCtr x0 k r := by
    intro r inb i
    rw [load_rank]; rfl
  have hl : trip_k1_t1.sl.v152 arg1 (harg1.unread x0) k
      = concatenate S16x4x16x128 0 (List.ofFn fun n : Fin 16 => (⟨S1x4x16x128, rowCtr x0 k n⟩ : (s : Shape) × (s.Idx → BitVec 32)))
        concatenates_S1x4x16x128_S1x4x16x128_S1x4x16x128_S1x4x16x128_S1x4x16x128_S1x4x16x128_S1x4x16x128_S1x4x16x128_S1x4x16x128_S1x4x16x128_S1x4x16x128_S1x4x16x128_S1x4x16x128_S1x4x16x128_S1x4x16x128_S1x4x16x128_S16x4x16x128_d0 := by
    refine StableHlo.concatenate_congr _ _ ?_ _ _
    have h := fun r : Fin 16 => hrow r (k1_off1_inb k r) (Shape.Idx.first (numel1_S1x1 ▸ Nat.one_pos))
    simp only [List.ofFn_succ, ← h]
    rfl
  rw [hl]
  refine (concatenate_ofFn_unit_apply (t := S16x4x16x128) (s₁ := S1x4x16x128) 0 (fun n => rowCtr x0 k n) _ rfl rfl y (y 0) rfl
    (ix4 0 (y 1) (y 2) (y 3)) ?_).trans ?_
  · intro b hb
    fin_cases b
    · exact absurd rfl hb
    all_goals rfl
  · have e := pay1_all (y 1) (y 2) (y 3)
    show (rankOf x0 k (y 0) <<< 13#32 + 42#32) + k1_pay1 (ix4 0 (y 1) (y 2) (y 3)) = _
    exact (congrArg (rankOf x0 k (y 0) <<< 13#32 + 42#32 + ·) e).trans (by rw [BitVec.add_assoc, BitVec.add_assoc, BitVec.add_comm (42#32)])

/-- A lane of the block's result: the element doubled where the word drawn is not negative, zero elsewhere. -/
def keepDbl (w : W) (v : F .f32) : F .f32 :=
  Scalar.select (IntOp.cmpi .sge w 0#32) (FloatOps.addf v v) (FloatOps.ofBits .f32 0#32)

/-- The block of the result, from the blocks of ranks and of the array. -/
def blockOut (x0 : Vec F S256x1 .i32) (x1 : Vec F S256x4x16x128 .f32) : Vec F S256x4x16x128 .f32 := fun y =>
  keepDbl (drawW ((show W from x0 (ix2 (y 0) 0)) <<< 13#32 + BitVec.ofNat 32 (offN (y 1) (y 2) (y 3)))) (x1 y)

/-- Where a trip's store puts a lane. -/
theorem emb_lane (k : Fin k1_t1_loop.trips) (y : S16x4x16x128.Idx) :
    (Rect.unit (s := S256x4x16x128) (k1_off2 k) S16x4x16x128.size (k1_off2_inb k)).idx y = ix4 (rowAt k (y 0)) (y 1) (y 2) (y 3) := by
  obtain ⟨h0, h1, h2, h3⟩ := off2_all k
  funext a
  refine Fin.ext ((Rect.idx_unit_val _ _ _ _ _).trans ?_)
  fin_cases a
  · show k1_off2 k 0 + (y 0).val = 16 * k.val + (y 0).val; rw [h0]
  · show k1_off2 k 1 + (y 1).val = (y 1).val; rw [h1, Nat.zero_add]
  · show k1_off2 k 2 + (y 2).val = (y 2).val; rw [h2, Nat.zero_add]
  · show k1_off2 k 3 + (y 3).val = (y 3).val; rw [h3, Nat.zero_add]

/-- A trip writes its sixteen rows of `blockOut`. -/
theorem trip_piece (c : Dev nD) (i : grid1.Coords) (arg1 : Memref sig .tc .smem S256x1 .i32) (harg1 : arg1.IsWhole)
    (arg2 : Memref sig .tc .vmem S256x4x16x128 .f32) (harg2 : arg2.IsWhole) (arg3 : Memref sig .tc .vmem S256x4x16x128 .f32)
    (harg3 : arg3.IsWhole) (x0 : Vec F S256x1 .i32) (x1 : Vec F S256x4x16x128 .f32) (k : Fin k1_t1_loop.trips) :
    ∀ p ∈ tripL_k1_t1 (F := F) Variants.none c none i arg1 harg1 arg2 harg2 arg3 harg3 (harg1.unread x0) (harg2.unread x1) k,
      ∀ x : p.1.shape.Idx, p.2 x = blockOut x0 x1 (p.1.emb x) := by
  unfold tripL_k1_t1 trip_k1_t1
  dsimp only
  intro p hp
  rw [List.mem_singleton] at hp
  subst hp
  intro y
  show k1_pay2 (trip_k1_t1.sl.v312 arg1 (harg1.unread x0) k) _ y = blockOut x0 x1 ((Rect.unit (s := S256x4x16x128) (k1_off2 k) S16x4x16x128.size (k1_off2_inb k)).idx y)
  rw [View.readAt_eq_ld, harg2.read_unread]
  have hd := draw_lane (F := F) (trip_k1_t1.sl.v152 arg1 (harg1.unread x0) k) y (v22 := k1_pay1)
    (v31 := trip_k1_t1.sl.v31 arg1 (harg1.unread x0) k) (v39 := trip_k1_t1.sl.v39 arg1 (harg1.unread x0) k)
    (v47 := trip_k1_t1.sl.v47 arg1 (harg1.unread x0) k) (v55 := trip_k1_t1.sl.v55 arg1 (harg1.unread x0) k)
    (v63 := trip_k1_t1.sl.v63 arg1 (harg1.unread x0) k) (v71 := trip_k1_t1.sl.v71 arg1 (harg1.unread x0) k)
    (v79 := trip_k1_t1.sl.v79 arg1 (harg1.unread x0) k) (v87 := trip_k1_t1.sl.v87 arg1 (harg1.unread x0) k)
    (v95 := trip_k1_t1.sl.v95 arg1 (harg1.unread x0) k) (v103 := trip_k1_t1.sl.v103 arg1 (harg1.unread x0) k)
    (v111 := trip_k1_t1.sl.v111 arg1 (harg1.unread x0) k) (v119 := trip_k1_t1.sl.v119 arg1 (harg1.unread x0) k)
    (v127 := trip_k1_t1.sl.v127 arg1 (harg1.unread x0) k) (v132 := trip_k1_t1.sl.v132 arg1 (harg1.unread x0) k) (w := 42#32)
    (v139 := trip_k1_t1.sl.r_14 arg1 (harg1.unread x0) k) (v147 := trip_k1_t1.sl.r_15 arg1 (harg1.unread x0) k)
    rfl rfl rfl rfl rfl rfl rfl rfl rfl rfl _ (ctr_lane arg1 harg1 x0 k y)
  have hv : trip_k1_t1.sl.v312 arg1 (harg1.unread x0) k y
      = drawW (rankOf x0 k (y 0) <<< 13#32 + BitVec.ofNat 32 (offN (y 1) (y 2) (y 3))) := hd
  have hp : ∀ (v : IVec S16x4x16x128 32) (u : Vec F S16x4x16x128 .f32), k1_pay2 v u y = keepDbl (v y) (u y) := by
    intro v u
    unfold k1_pay2
    rw [shapeCast_self]
    rfl
  refine (hp _ _).trans ?_
  rw [hv]
  rw [emb_lane]
  show keepDbl _ (x1 ((Rect.unit (s := S256x4x16x128) (k1_off2 k) S16x4x16x128.size (k1_off2_inb k)).idx y)) = _
  rw [emb_lane]
  rfl

/-- The pieces of any number of trips are `blockOut`'s. -/
theorem trips_pieces (c : Dev nD) (i : grid1.Coords) (arg1 : Memref sig .tc .smem S256x1 .i32) (harg1 : arg1.IsWhole)
    (arg2 : Memref sig .tc .vmem S256x4x16x128 .f32) (harg2 : arg2.IsWhole) (arg3 : Memref sig .tc .vmem S256x4x16x128 .f32)
    (harg3 : arg3.IsWhole) (x0 : Vec F S256x1 .i32) (x1 : Vec F S256x4x16x128 .f32) : ∀ n : ℕ, n ≤ k1_t1_loop.trips →
    ∀ p ∈ pb_k1_t1 (F := F) Variants.none c none i arg1 harg1 arg2 harg2 arg3 harg3 (harg1.unread x0) (harg2.unread x1) n,
      ∀ x : p.1.shape.Idx, p.2 x = blockOut x0 x1 (p.1.emb x)
  | 0, _ => fun p hp => absurd hp (by unfold pb_k1_t1; exact List.not_mem_nil)
  | n + 1, hn => by
    intro p hp
    rw [pb_k1_t1_succ (F := F) Variants.none c none i arg1 harg1 arg2 harg2 arg3 harg3 _ _ ⟨n, hn⟩] at hp
    rcases List.mem_append.mp hp with h | h
    · exact trip_piece c i arg1 harg1 arg2 harg2 arg3 harg3 x0 x1 ⟨n, hn⟩ p h
    · exact trips_pieces c i arg1 harg1 arg2 harg2 arg3 harg3 x0 x1 n (Nat.le_of_succ_le hn) p h

/-- What the second kernel function leaves in its block of the result. -/
theorem out1_eq (c : Dev nD) (i : grid1.Coords) (arg1 : Memref sig .tc .smem S256x1 .i32) (harg1 : arg1.IsWhole)
    (arg2 : Memref sig .tc .vmem S256x4x16x128 .f32) (harg2 : arg2.IsWhole) (arg3 : Memref sig .tc .vmem S256x4x16x128 .f32)
    (harg3 : arg3.IsWhole) (x0 : Vec F S256x1 .i32) (x1 : Vec F S256x4x16x128 .f32) :
    out1_A_2 c i arg1 harg1 arg2 harg2 arg3 harg3 x0 x1 = blockOut x0 x1 := by
  funext y
  unfold out1_A_2
  rw [View.read_writes_junk_eq_canon]
  refine View.canon_apply_of_pieces (blockOut x0 x1) _ ?_ y (cover1_A_2 c i arg1 harg1 arg2 harg2 arg3 harg3 x0 x1 y)
  unfold kernelRun1_A
  dsimp only
  exact trips_pieces c i arg1 harg1 arg2 harg2 arg3 harg3 x0 x1 _ (le_refl _)

end Cert.Proof.Kern

end
-- ==== Proof.Kern.Layout.lean ====
/-
  The kernel's layout of the batch, element by element.
-/
module

public import proofs.«01_k».proof.Proof.Kern.Host
public import proofs.«01_k».proof.Proof.Kern.Trip
public import Idealize.ShloMosaic.Lib.ValueIdxRank6

@[expose] public section

noncomputable section

namespace Cert.Proof.Kern

open Cert.KernelIdeal Cert.KernelIdeal.Gen
open Idealize.ShloMosaic

/-- The half of the first cut of the channels. -/
def cut1 (ch : Fin 512) : Fin 2 := ⟨ch.val / 256, by have := ch.isLt; omega⟩
/-- The half of the second cut. -/
def cut2 (ch : Fin 512) : Fin 2 := ⟨ch.val / 128 % 2, by omega⟩
/-- The lane of a channel. -/
def lane (ch : Fin 512) : Fin 128 := ⟨ch.val % 128, by omega⟩
/-- The row of a channel and a column. -/
def rowOf (ch : Fin 512) (w : Fin 4) : Fin 16 := ⟨8 * (ch.val / 256) + 4 * (ch.val / 128 % 2) + w.val, by
  have := ch.isLt; have := w.isLt; omega⟩

/-- A batch element's place in the six-axis view. -/
theorem place_batch (n : Fin 4096) (ch : Fin 512) (h w : Fin 4) :
    (S4096x512x4x4.rowMajor (ix4 n ch h w)).val = (S4096x2x2x128x4x4.rowMajor (ValueIdx.ix6 n (cut1 ch) (cut2 ch) (lane ch) h w)).val := by
  rw [Shape.rowMajor_val_four, Shape.rowMajor_val_six]
  show ((n.val * 512 + ch.val) * 4 + h.val) * 4 + w.val
    = ((((n.val * 2 + ch.val / 256) * 2 + ch.val / 128 % 2) * 128 + ch.val % 128) * 4 + h.val) * 4 + w.val
  omega

/-- An element's place in the kernel's layout and in the transposed six-axis view. -/
theorem place_kernel (n : Fin 4096) (ch : Fin 512) (h w : Fin 4) :
    (S4096x4x16x128.rowMajor (ix4 n h (rowOf ch w) (lane ch))).val
      = (S4096x4x2x2x4x128.rowMajor (ValueIdx.ix6 n h (cut1 ch) (cut2 ch) w (lane ch))).val := by
  rw [Shape.rowMajor_val_four, Shape.rowMajor_val_six]
  show ((n.val * 4 + h.val) * 16 + (8 * (ch.val / 256) + 4 * (ch.val / 128 % 2) + w.val)) * 128 + ch.val % 128
    = ((((n.val * 4 + h.val) * 2 + ch.val / 256) * 2 + ch.val / 128 % 2) * 4 + w.val) * 128 + ch.val % 128
  omega

/-- The batch in the kernel's layout, at an element of the batch. -/
theorem kerIn_apply (x : KI S4096x512x4x4 .f32) (n : Fin 4096) (ch : Fin 512) (h w : Fin 4) :
    kerIn x (ix4 n h (rowOf ch w) (lane ch)) = x (ix4 n ch h w) := by
  unfold kerIn
  refine (shapeCast_apply _ _ _ (ValueIdx.ix6 n h (cut1 ch) (cut2 ch) w (lane ch)) (place_kernel n ch h w).symm).trans ?_
  refine (transpose_apply _ _ _ _ (ValueIdx.ix6 n (cut1 ch) (cut2 ch) (lane ch) h w) fun b => by fin_cases b <;> rfl).trans ?_
  exact shapeCast_apply _ _ _ (ix4 n ch h w) (place_batch n ch h w)

/-- The result in the batch's own layout, at an element of the batch. -/
theorem kerBack_apply (y : KI S4096x4x16x128 .f32) (n : Fin 4096) (ch : Fin 512) (h w : Fin 4) :
    kerBack y (ix4 n ch h w) = y (ix4 n h (rowOf ch w) (lane ch)) := by
  unfold kerBack
  refine (shapeCast_apply _ _ _ (ValueIdx.ix6 n (cut1 ch) (cut2 ch) (lane ch) h w) (place_batch n ch h w).symm).trans ?_
  refine (transpose_apply _ _ _ _ (ValueIdx.ix6 n h (cut1 ch) (cut2 ch) w (lane ch)) fun b => by fin_cases b <;> rfl).trans ?_
  exact shapeCast_apply _ _ _ (ix4 n h (rowOf ch w) (lane ch)) (place_kernel n ch h w)

/-- The counter of an element less its row's start is the element's place in its row. -/
theorem offN_eq (ch : Fin 512) (h w : Fin 4) : offN h.val (rowOf ch w).val (lane ch).val = 16 * ch.val + 4 * h.val + w.val := by
  unfold offN
  show 4096 * ((8 * (ch.val / 256) + 4 * (ch.val / 128 % 2) + w.val) / 8)
    + 2048 * ((8 * (ch.val / 256) + 4 * (ch.val / 128 % 2) + w.val) / 4 % 2) + 16 * (ch.val % 128) + 4 * h.val
    + (8 * (ch.val / 256) + 4 * (ch.val / 128 % 2) + w.val) % 4 = _
  have := ch.isLt; have := w.isLt; have := h.isLt
  omega

/-- A rank's word moved up thirteen places, and a place in a row, as one number. -/
theorem shift_add (r m : ℕ) : BitVec.ofNat 32 r <<< 13#32 + BitVec.ofNat 32 m = BitVec.ofNat 32 (8192 * r + m) := by
  apply BitVec.eq_of_toNat_eq
  rw [BitVec.toNat_add, BitVec.shiftLeft_eq', BitVec.toNat_shiftLeft]
  simp only [BitVec.toNat_ofNat, Nat.shiftLeft_eq]
  norm_num
  omega

end Cert.Proof.Kern

end
-- ==== Proof.Pure.Rank.lean ====
/-
  The stable sort of positions by a key of a linear order, read at a position's rank: the number of positions of a
  smaller key, and of the same key and an earlier position, is where the stable sort puts a position.
-/
module

public import Idealize.ShloMosaic.Lib.SortPrefix

@[expose] public section

namespace Cert.Proof

open Idealize.ShloMosaic

section

variable {n : Nat} {κ : Type} [LinearOrder κ] (key : Fin n → κ)

/-- Position `a` comes before position `b`: its key is smaller, or the keys are equal and it is the earlier one. -/
def keyBefore (a b : Fin n) : Bool := decide (key a < key b) || (decide (key a = key b) && decide (a < b))

/-- How many positions come before `i`. -/
def keyRank (i : Fin n) : Nat := (Finset.univ.filter fun j => keyBefore key j i = true).card

/-- Coming before is a strict total order on the positions. -/
theorem keyBefore_strictTotal : StrictTotalBefore (keyBefore key) :=
  StrictTotalBefore.of_key_then_position (fun a b : κ => decide (a < b)) key (fun a => by simp)
    (fun a b c h h' => by simp only [decide_eq_true_eq] at h h' ⊢; exact lt_trans h h')
    (fun a b => by simp only [decide_eq_true_eq]; exact lt_trichotomy a b)

/-- On an ascending list the stable sort by the key alone is the sort by the key and then the position. -/
theorem stableSort_key (l : List (Fin n)) (hl : l.Pairwise (· < ·)) :
    stableSort (fun a b => decide (key a < key b)) l = stableSort (keyBefore key) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    have : ¬ b < a := not_lt.mpr hab.le
    simp [keyBefore, this]

/-- The source of a sorted position is the same under the key alone and under the key and then the position. -/
theorem sortedFrom_key :
    sortedFrom (fun a b => decide (key a < key b)) = sortedFrom (keyBefore key) := by
  funext k
  unfold sortedFrom
  rw [List.get_of_eq (show sortPositions n (fun a b => decide (key a < key b)) = sortPositions n (keyBefore key) from
    stableSort_key key _ (List.pairwise_lt_finRange n))]
  rfl

/-- The rank grows along the order. -/
theorem keyRank_lt {i j : Fin n} (h : keyBefore key i j = true) : keyRank key i < keyRank key j := by
  have hB := keyBefore_strictTotal key
  refine Finset.card_lt_card ⟨fun a ha => ?_, fun hs => ?_⟩
  · simp only [Finset.mem_filter, Finset.mem_univ, true_and] at ha ⊢
    exact hB.trans _ _ _ ha h
  · have hi : i ∈ Finset.univ.filter fun a => keyBefore key a i = true := hs (by simp [h])
    simp only [Finset.mem_filter, Finset.mem_univ, true_and, hB.irrefl i] at hi
    exact absurd hi (by decide)

/-- A rank is a position. -/
theorem keyRank_lt_card (i : Fin n) : keyRank key i < n := by
  have hB := keyBefore_strictTotal key
  have : keyRank key i < (Finset.univ : Finset (Fin n)).card := by
    refine Finset.card_lt_card ⟨Finset.subset_univ _, fun hs => ?_⟩
    have hi := hs (Finset.mem_univ i)
    simp only [Finset.mem_filter, Finset.mem_univ, true_and, hB.irrefl i] at hi
    exact absurd hi (by decide)
  simpa using this

/-- The rank of a position, as a position. -/
def rankPos (i : Fin n) : Fin n := ⟨keyRank key i, keyRank_lt_card key i⟩

/-- Different positions have different ranks. -/
theorem rankPos_injective : Function.Injective (rankPos key) := by
  intro i j h
  by_contra hne
  have hv : keyRank key i = keyRank key j := congrArg Fin.val h
  rcases (keyBefore_strictTotal key).total i j hne with h' | h'
  · exact absurd (keyRank_lt key h') (by omega)
  · exact absurd (keyRank_lt key h') (by omega)

/-- What the stable sort puts at a position's rank is that position. -/
theorem sortedFrom_rankPos (i : Fin n) :
    sortedFrom (fun a b => decide (key a < key b)) (rankPos key i) = i := by
  have hB := keyBefore_strictTotal key
  have hbij : Function.Bijective (rankPos key) := Finite.injective_iff_bijective.mp (rankPos_injective key)
  set e := Equiv.ofBijective (rankPos key) hbij with he
  have hσ : ∀ p, rankPos key (e.symm p) = p := fun p => e.apply_symm_apply p
  rw [sortedFrom_key]
  have := hB.sortedFrom_eq_of_prefix (le_refl n) e.symm e.symm.injective
    (fun i j hij => by
      cases hc : keyBefore key (e.symm j) (e.symm i)
      · rfl
      · have h1 : rankPos key (e.symm j) < rankPos key (e.symm i) := keyRank_lt key hc
        rw [hσ, hσ] at h1
        exact absurd h1 (not_lt.mpr hij.le))
    (fun i p hp => absurd (e.symm_apply_apply p) (hp (e p))) (rankPos key i)
  rw [show (rankPos key i).castLE (le_refl n) = rankPos key i from rfl] at this
  rw [this]
  exact e.symm_apply_apply i

/-- The rank of what the stable sort puts at a position is that position. -/
theorem rankPos_sortedFrom (r : Fin n) :
    rankPos key (sortedFrom (fun a b => decide (key a < key b)) r) = r := by
  have hbij : Function.Bijective (rankPos key) := Finite.injective_iff_bijective.mp (rankPos_injective key)
  obtain ⟨i, rfl⟩ := hbij.2 r
  rw [sortedFrom_rankPos]

end

end Cert.Proof

end
-- ==== Proof.Kern.Region0.lean ====
/-
  The array the first kernel function leaves: each score's rank in descending order.
-/
module

public import proofs.«01_k».proof.Proof.Gen.KernelIdeal.Frame
public import proofs.«01_k».proof.Proof.Pure.Index
public import proofs.«01_k».proof.Proof.Pure.Rank
public import proofs.«01_k».proof.Proof.Pure.Words
public import Idealize.ShloMosaic.PureOps.Ideal
public import Idealize.ShloMosaic.Lib.IndicatorCount
public import Idealize.ShloMosaic.Lib.Pipeline.ValueKit

@[expose] public section

noncomputable section

namespace Cert.Proof.Kern

open Cert.KernelIdeal Cert.KernelIdeal.Gen
open Idealize.ShloMosaic Idealize.ShloMosaic.TcCoe Idealize.SL.Sem

/-- The descending rank of a score among 4096, as a word. -/
def rankWord (s : Fin 4096 → EReal) (i : Fin 4096) : W := BitVec.ofNat 32 (keyRank (fun j => -(s j)) i)

/-- One bit or another, widened and added: the bits are never both one. -/
theorem add_bits (p q : Bool) (h : ¬ (p = true ∧ q = true)) :
    (BitVec.ofBool p).setWidth 32 + (BitVec.ofBool q).setWidth 32 = (BitVec.ofBool (p || q)).setWidth 32 := by
  cases p <;> cases q <;> first | rfl | exact absurd ⟨rfl, rfl⟩ h

/-- Words of numbers below 2³¹ compare as the numbers. -/
theorem slt_ofNat (a b : ℕ) (ha : a < 2 ^ 31) (hb : b < 2 ^ 31) :
    IntOp.cmpi .slt (BitVec.ofNat 32 a) (BitVec.ofNat 32 b) = BitVec.ofBool (decide (a < b)) := by
  show BitVec.ofBool ((BitVec.ofNat 32 a).slt (BitVec.ofNat 32 b)) = _
  congr 1
  rw [BitVec.slt_eq_decide, BitVec.toInt_ofNat', BitVec.toInt_ofNat', Int.bmod_eq_of_le (by omega) (by omega),
    Int.bmod_eq_of_le (by omega) (by omega)]
  simp

/-- The index over a row at a lane. -/
theorem lift_lane (r : Fin 256) (k : Fin 4096) : reduces_S256x4096_S256.lift (ix1 r) k = ix2 r k := by
  funext a
  refine Fin.ext ((Shape.Reduces.lift_val _ _ _ _).trans ?_)
  fin_cases a <;> rfl

/-- The sum over the lanes of widened bits, at a row: the number of lanes whose bit is one. -/
theorem sum_lanes (X : IVec S256x4096 32) (b : Fin 4096 → Bool) (r : Fin 256)
    (h : ∀ k : Fin 4096, X (ix2 r k) = (BitVec.ofBool (b k)).setWidth 32) :
    shapeCast S256x1 (multiReductionI .add [1] S256 X 0#32 reduces_S256x4096_S256 rfl) shapeCasts_S256_S256x1 (ix2 r 0)
      = BitVec.ofNat 32 (Finset.univ.filter fun k : Fin 4096 => b k = true).card := by
  refine (shapeCast_apply _ _ (ix2 r 0) (ix1 r) ?_).trans ?_
  · rw [Shape.rowMajor_val_two, Shape.rowMajor_val_one]
    show r.val = r.val * 1 + 0
    omega
  refine (multiReductionI_eq_fold _ _ _ _ _ _).trans ?_
  refine (Shape.Reduces.fold_filter_drop_single _ _ _ _ _).trans ?_
  refine (Finset.fold_congr (g := fun k : Fin 4096 => (BitVec.ofBool (b k)).setWidth 32) ?_).trans ?_
  · intro k _
    exact (congrArg X (lift_lane r k)).trans (h k)
  · refine (IndicatorCount.fold_addi_setWidth_eq_card (fun k : Fin 4096 => BitVec.ofBool (b k)) _).trans ?_
    exact congrArg (fun f : Finset (Fin 4096) => BitVec.ofNat 32 f.card)
      (Finset.filter_congr fun k _ => (by decide : ∀ c : Bool, BitVec.ofBool c = 1#1 ↔ c = true) (b k))

/-- The block of ranks at a row. -/
theorem pay_rank (i : grid0.Coords) (v0 : Vec Idealize.ShloMosaic.Ideal S1x4096 .f32) (v2 : Vec Idealize.ShloMosaic.Ideal S256x1 .f32)
    (s : Fin 4096 → EReal) (r : Fin 256) (g : Fin 4096) (hg : g.val = 256 * (i 0).val + r.val)
    (h0 : ∀ j : Fin 4096, v0 (ix2 0 j) = s j) (h2 : v2 (ix2 r 0) = s g) :
    k0_pay1 i v0 v2 (ix2 r 0) = rankWord s g := by
  have hi : (i 0).val < 16 := (i 0).isLt
  unfold k0_pay1
  dsimp only
  rw [shapeCast_self, shapeCast_self]
  have key : ∀ k : Fin 4096, (BitVec.ofBool (decide (s g < s k))).setWidth 32
      + (BitVec.ofBool (decide (s k = s g) && decide (k.val < g.val))).setWidth 32
      = (BitVec.ofBool (keyBefore (fun j => -(s j)) k g)).setWidth 32 := fun k => by
    rw [add_bits _ _ (by
      rintro ⟨a, b⟩
      rw [Bool.and_eq_true, decide_eq_true_eq] at b
      rw [decide_eq_true_eq, b.1] at a
      exact lt_irrefl _ a)]
    unfold keyBefore
    simp only [EReal.neg_lt_neg_iff, neg_inj, Fin.lt_def]
  have hw : ∀ k : Fin 4096, IntOp.cmpi .slt (BitVec.ofNat 32 k.val)
      (Scalar.muli (BitVec.ofNat 32 (i 0).val) 256#32 + BitVec.ofNat 32 r.val) = BitVec.ofBool (decide (k.val < g.val)) := by
    intro k
    have : Scalar.muli (BitVec.ofNat 32 (i 0).val) 256#32 + BitVec.ofNat 32 r.val = BitVec.ofNat 32 g.val := by
      rw [hg, Nat.mul_comm, BitVec.ofNat_add, BitVec.ofNat_mul]; rfl
    rw [this]
    exact slt_ofNat _ _ (by have := k.isLt; omega) (by have := g.isLt; omega)
  refine sum_lanes _ (fun k => keyBefore (fun j => -(s j)) k g) r fun k => ?_
  have e0 : broadcastTo S256x4096 v0 broadcasts_S1x4096_S256x4096 (ix2 r k) = s k :=
    (broadcastTo_apply _ _ _ (ix2 0 k) (fun a => by fin_cases a <;> rfl)).trans (h0 k)
  have e2 : broadcastTo S256x4096 v2 broadcasts_S256x1_S256x4096 (ix2 r k) = s g :=
    (broadcastTo_apply _ _ _ (ix2 r 0) (fun a => by fin_cases a <;> rfl)).trans h2
  have e16 : broadcastTo S256x4096 (addi (broadcast S256x1 (Scalar.muli (BitVec.ofNat 32 (i 0).val) 256#32))
      (iota Kind.tc S256x1 32 [0] iota_S256x1_d0_w32)) broadcasts_S256x1_S256x4096 (ix2 r k)
      = Scalar.muli (BitVec.ofNat 32 (i 0).val) 256#32 + BitVec.ofNat 32 r.val := by
    refine (broadcastTo_apply _ _ _ (ix2 r 0) (fun a => by fin_cases a <;> rfl)).trans ?_
    show Scalar.muli (BitVec.ofNat 32 (i 0).val) 256#32 + BitVec.ofNat 32 (0 * _ + r.val) = _
    rw [Nat.zero_mul, Nat.zero_add]
  have e8 : iota Kind.tc S256x4096 32 [1] iota_S256x4096_d1_w32 (ix2 r k) = BitVec.ofNat 32 k.val := by
    show BitVec.ofNat 32 (0 * _ + k.val) = _
    rw [Nat.zero_mul, Nat.zero_add]
  refine Eq.trans ?_ (key k)
  show (Idealize.ShloMosaic.Ideal.cmp .ogt (broadcastTo S256x4096 v0 broadcasts_S1x4096_S256x4096 (ix2 r k))
        (broadcastTo S256x4096 v2 broadcasts_S256x1_S256x4096 (ix2 r k))).setWidth 32
      + ((Idealize.ShloMosaic.Ideal.cmp .oeq (broadcastTo S256x4096 v0 broadcasts_S1x4096_S256x4096 (ix2 r k))
          (broadcastTo S256x4096 v2 broadcasts_S256x1_S256x4096 (ix2 r k)))
        &&& (IntOp.cmpi .slt (iota Kind.tc S256x4096 32 [1] iota_S256x4096_d1_w32 (ix2 r k))
          (broadcastTo S256x4096 (addi (broadcast S256x1 (Scalar.muli (BitVec.ofNat 32 (i 0).val) 256#32))
            (iota Kind.tc S256x1 32 [0] iota_S256x1_d0_w32)) broadcasts_S256x1_S256x4096 (ix2 r k)))).setWidth 32 = _
  rw [e0, e2, e8, e16, hw k]
  congr 2
  exact (by decide : ∀ p q : Bool, BitVec.ofBool p &&& BitVec.ofBool q = BitVec.ofBool (p && q)) _ _

variable (V : (c : Dev nD) → (b : Ref sig .tc) → Buf (Elt Idealize.ShloMosaic.Ideal) ((c : Thread nD τ).loc b))

/-- Which block each window takes at a point. -/
theorem index0 : ∀ t : Fin cfg0.N, win0_0.index t = ![0, 0]
    ∧ win0_1.index t = ![(grid0.coords t 0).val, 0] ∧ win0_2.index t = ![(grid0.coords t 0).val, 0] :=
  (by decide +kernel : ∀ t : Fin grid0.N, _)

/-- What the first pipeline leaves in its result, the row and the column holding one array of scores. -/
theorem region0 (c : Dev nD) (s : Fin 4096 → EReal) (h0 : ∀ j : Fin 4096, V c main_v20 (ix2 0 j) = s j)
    (h1 : ∀ j : Fin 4096, V c main_v21 (ix2 j 0) = s j) :
    (dat0 V c).arrAt 2 cfg0.N = fun y : S4096x1.Idx => rankWord s (y 0) := by
  refine (dat0 V c).arrAt_eq_of_covers 2 _ (by decide +kernel) fun t hf y => ?_
  blk_simp
  rw [after0_2]
  obtain ⟨e0, e1, e2⟩ := index0 t
  have q0 : ((win0_2.blk t).view.emb y 0 : ℕ) = (grid0.coords t 0).val * 256 + (y 0).val := by
    blk_simp [e2]
  show out0_2 _ _ _ y = rankWord s ((win0_2.blk t).view.emb y 0)
  unfold out0_2
  rw [View.canon_unit_zero (by funext a; fin_cases a <;> rfl), View.ld_unit_zero (by funext a; fin_cases a <;> rfl),
    View.ld_unit_zero (by funext a; fin_cases a <;> rfl)]
  have hb0 : ∀ j : Fin 4096, iblk0 V c 0 t (ix2 0 j) = s j := fun j => by
    rw [← h0 j]
    blk_ext [iblk0, e0]
  have hb1 : iblk0 V c 1 t (ix2 (y 0) 0) = s ((win0_2.blk t).view.emb y 0) := by
    refine Eq.trans ?_ (h1 ((win0_2.blk t).view.emb y 0))
    blk_ext [iblk0, e1]
    exact q0.symm
  have hy : y = ix2 (y 0) 0 := by
    refine (ix2_eta y).symm.trans ?_
    exact congrArg (ix2 (y 0)) (Subsingleton.elim (α := Fin 1) (y 1) 0)
  refine Eq.trans (congrArg _ hy) ?_
  exact pay_rank (grid0.coords t) _ _ s (y 0) _ (q0.trans (by rw [Nat.mul_comm])) hb0 hb1

end Cert.Proof.Kern

end
-- ==== Proof.Kern.Region1.lean ====
/-
  The array the second kernel function leaves, from the ranks and the array it reads.
-/
module

public import proofs.«01_k».proof.Proof.Kern.Trip
public import Idealize.ShloMosaic.Lib.Pipeline.ValueKit

@[expose] public section

noncomputable section

namespace Cert.Proof.Kern

open Cert.KernelIdeal Cert.KernelIdeal.Gen
open Idealize.ShloMosaic Idealize.ShloMosaic.TcCoe Idealize.SL.Sem

variable {F : FTy → Type} [FloatOps F]
variable (V : (c : Dev nD) → (b : Ref sig .tc) → Buf (Elt F) ((c : Thread nD τ).loc b))

/-- The dropped array from the ranks and the array in the kernel's layout. -/
def dropArr (rank : Vec F S4096x1 .i32) (x3 : Vec F S4096x4x16x128 .f32) : Vec F S4096x4x16x128 .f32 := fun y =>
  keepDbl (drawW ((show W from rank (ix2 (y 0) 0)) <<< 13#32 + BitVec.ofNat 32 (offN (y 1) (y 2) (y 3)))) (x3 y)

/-- Which block each window takes at a point. -/
theorem index1 : ∀ t : Fin cfg1.N, win1_0.index t = ![(grid1.coords t 0).val, 0]
    ∧ win1_1.index t = ![(grid1.coords t 0).val, 0, 0, 0] ∧ win1_2.index t = ![(grid1.coords t 0).val, 0, 0, 0] :=
  (by decide +kernel : ∀ t : Fin grid1.N, _)

/-- What the second pipeline leaves in its result. -/
theorem region1 (c : Dev nD) : (dat1 V c).arrAt 2 cfg1.N = dropArr (V c main_v22) (V c main_v25) := by
  refine (dat1 V c).arrAt_eq_of_covers 2 _ (by decide +kernel) fun t hf y => ?_
  blk_simp
  rw [after1_2]
  unfold outsAt1
  rw [out1_eq]
  obtain ⟨e0, e1, e2⟩ := index1 t
  have h1 : iblk1 V c 1 t y = V c main_v25 ((win1_2.blk t).view.emb y) := by
    blk_ext [iblk1, e1, e2]
  have q0 : ((win1_2.blk t).view.emb y 0 : ℕ) = (grid1.coords t 0).val * 256 + (y 0).val := by
    blk_simp [e2]
  have q1 : ((win1_2.blk t).view.emb y 1 : ℕ) = (y 1).val := by blk_simp [e2]
  have q2 : ((win1_2.blk t).view.emb y 2 : ℕ) = (y 2).val := by blk_simp [e2]
  have q3 : ((win1_2.blk t).view.emb y 3 : ℕ) = (y 3).val := by blk_simp [e2]
  have h0 : iblk1 V c 0 t (ix2 (y 0) 0) = V c main_v22 (ix2 ((win1_2.blk t).view.emb y 0) 0) := by
    blk_ext [iblk1, e0]
    exact q0.symm
  show keepDbl (drawW ((show W from iblk1 V c 0 t (ix2 (y 0) 0)) <<< 13#32 + BitVec.ofNat 32 (offN (y 1) (y 2) (y 3)))) (iblk1 V c 1 t y)
    = keepDbl (drawW ((show W from V c main_v22 (ix2 ((win1_2.blk t).view.emb y 0) 0)) <<< 13#32
        + BitVec.ofNat 32 (offN ((win1_2.blk t).view.emb y 1) ((win1_2.blk t).view.emb y 2) ((win1_2.blk t).view.emb y 3))))
      (V c main_v25 ((win1_2.blk t).view.emb y))
  rw [h0, h1, q1, q2, q3]

end Cert.Proof.Kern

end
-- ==== Proof.Kern.Result.lean ====
/-
  The kernel's result, element by element.
-/
module

public import proofs.«01_k».proof.Proof.Kern.Layout
public import proofs.«01_k».proof.Proof.Kern.Region0
public import proofs.«01_k».proof.Proof.Kern.Region1

@[expose] public section

noncomputable section

namespace Cert.Proof.Kern

open Cert.KernelIdeal Cert.KernelIdeal.Gen
open Idealize.ShloMosaic Idealize.ShloMosaic.TcCoe Idealize.ShloMosaic.StableHlo Idealize.SL.Sem

/-- A flat array as a row, at a place. -/
theorem as_row (a : KI S4096 .f32) (j : Fin 4096) : (shapeCast S1x4096 a shapeCasts_S4096_S1x4096 : KI S1x4096 .f32) (ix2 0 j) = a (ix1 j) :=
  shapeCast_apply _ _ _ (ix1 j) (by
    rw [Shape.rowMajor_val_one, Shape.rowMajor_val_two]
    show j.val = 0 * 4096 + j.val
    omega)

/-- A flat array as a column, at a place. -/
theorem as_col (a : KI S4096 .f32) (j : Fin 4096) : (shapeCast S4096x1 a shapeCasts_S4096_S4096x1 : KI S4096x1 .f32) (ix2 j 0) = a (ix1 j) :=
  shapeCast_apply _ _ _ (ix1 j) (by
    rw [Shape.rowMajor_val_one, Shape.rowMajor_val_two]
    show j.val = j.val * 1 + 0
    omega)

/-- The dropped array at an element of the batch. -/
theorem dropArr_apply (s : Fin 4096 → EReal) (x : KI S4096x512x4x4 .f32) (n : Fin 4096) (ch : Fin 512) (h w : Fin 4) :
    dropArr (F := Idealize.ShloMosaic.Ideal) (fun y : S4096x1.Idx => rankWord s (y 0)) (kerIn x) (ix4 n h (rowOf ch w) (lane ch))
      = keepDbl (F := Idealize.ShloMosaic.Ideal) (drawW (BitVec.ofNat 32 (8192 * keyRank (fun j => -(s j)) n + (16 * ch.val + 4 * h.val + w.val))))
          (x (ix4 n ch h w)) := by
  show keepDbl (F := Idealize.ShloMosaic.Ideal)
    (drawW (BitVec.ofNat 32 (keyRank (fun j => -(s j)) n) <<< 13#32 + BitVec.ofNat 32 (offN h.val (rowOf ch w).val (lane ch).val)))
    (kerIn x (ix4 n h (rowOf ch w) (lane ch))) = _
  rw [shift_add, offN_eq, kerIn_apply]

variable (m : (ℓ : Loc nD τ sig) → Buf (Elt Idealize.ShloMosaic.Ideal) ℓ) (ρ : Dev nD → PrngReg)

/-- The scores the kernel ranks by: the probabilities of the first class. -/
def kerScore (x : KI S4096x512x4x4 .f32) (w : KI S1000x512 .f32) (b : KI S1000 .f32) (j : Fin 4096) : EReal :=
  kerRow (kerProb x w b) (ix1 j)

/-- What the ranks' array holds after the first kernel function. -/
theorem ranks (c : Dev nD) : W3 m ρ c (Proc.devRef .tc main_v22) = fun y : S4096x1.Idx =>
    rankWord (kerScore (m ((c.tc : Thread nD τ).loc main_arg0)) (m ((c.tc : Thread nD τ).loc main_arg1)) (m ((c.tc : Thread nD τ).loc main_arg2))) (y 0) := by
  refine (W3_of m ρ c main_v22 (by decide)).trans ((W2_arr m ρ c 2).trans (region0 (V1 m ρ) c _ (fun j => ?_) fun j => ?_))
  · exact (congrFun (read0_row (W0 m ρ c)) (ix2 0 j)).trans (as_row _ j)
  · exact (congrFun (read0_col (W0 m ρ c)) (ix2 j 0)).trans (as_col _ j)

/-- What the batch's array in the kernel's layout holds before the second kernel function. -/
theorem batch (c : Dev nD) : W3 m ρ c (Proc.devRef .tc main_v25) = kerIn (m ((c.tc : Thread nD τ).loc main_arg0)) :=
  (read1 (W2 m ρ c)).trans (congrArg kerIn (W2_args m ρ c main_arg0 (by decide)))

/-- The result at an element: the element doubled or zero, by the word drawn at its rank and place. -/
theorem result (c : Dev nD) (n : Fin 4096) (ch : Fin 512) (h w : Fin 4) :
    (W5 m ρ c (Proc.devRef .tc main_v29) : KI S4096x512x4x4 .f32) (ix4 n ch h w)
      = keepDbl (F := Idealize.ShloMosaic.Ideal) (drawW (BitVec.ofNat 32 (8192 * keyRank (fun j => -(kerScore (m ((c.tc : Thread nD τ).loc main_arg0))
            (m ((c.tc : Thread nD τ).loc main_arg1)) (m ((c.tc : Thread nD τ).loc main_arg2)) j)) n + (16 * ch.val + 4 * h.val + w.val))))
          ((m ((c.tc : Thread nD τ).loc main_arg0) : KI S4096x512x4x4 .f32) (ix4 n ch h w)) := by
  refine (congrFun (read2 (W4 m ρ c)) _).trans ((kerBack_apply _ n ch h w).trans ?_)
  refine (congrFun ((W4_arr m ρ c 2).trans (region1 (V3 m ρ) c)) _).trans ?_
  refine (congrFun (congrArg₂ dropArr (ranks m ρ c) (batch m ρ c)) _).trans ?_
  exact dropArr_apply _ _ n ch h w

end Cert.Proof.Kern

end
-- ==== Proof.Ref.Order.lean ====
/-
  The positions the reference's sort takes: by the negated probability of the first class, equal ones in their old order.
-/
module

public import proofs.«01_k».proof.Proof.Ref.Value
public import proofs.«01_k».proof.Proof.Pure.Index
public import proofs.«01_k».proof.Proof.Pure.Rank
public import Idealize.ShloMosaic.PureOps.Ideal.Laws
public import Idealize.ShloMosaic.Lib.Pipeline.ValueKit

@[expose] public section

noncomputable section

namespace Cert.Proof.Ref

open Cert.ReferenceIdeal Cert.ReferenceIdeal.Gen
open Idealize.ShloMosaic

/-- A score as the comparator reads it, a zero written as zero and a value unlike itself as the pattern of one, is the score. -/
theorem canon_eq (a : EReal) :
    Scalar.select (Idealize.ShloMosaic.Ideal.cmp .une a a) (Idealize.ShloMosaic.Ideal.ofBits .f32 0x7FC00000#32)
      (Scalar.select (Idealize.ShloMosaic.Ideal.cmp .oeq a (Idealize.ShloMosaic.Ideal.ofBits .f32 0x00000000#32))
        (Idealize.ShloMosaic.Ideal.ofBits .f32 0x00000000#32) a) = a := by
  have h1 : Idealize.ShloMosaic.Ideal.cmp .une a a = 0#1 := by
    show BitVec.ofBool (decide (a ≠ a)) = _
    rw [decide_eq_false (by simp)]
    rfl
  rw [h1]
  show Scalar.select (BitVec.ofBool (decide (a = Idealize.ShloMosaic.Ideal.ofBits .f32 0x00000000#32))) _ a = a
  by_cases h : a = Idealize.ShloMosaic.Ideal.ofBits .f32 0x00000000#32
  · rw [decide_eq_true h]
    exact h.symm
  · rw [decide_eq_false h]
    rfl

/-- The comparator says whether the first score is the smaller. -/
theorem comparator_eq (l r : Idealize.ShloMosaic.Ideal .f32 × BitVec 32) :
    (comparator_f32_i32_d0 (F := Idealize.ShloMosaic.Ideal) l r == 1#1) = decide ((show EReal from l.1) < (show EReal from r.1)) := by
  have h : comparator_f32_i32_d0 (F := Idealize.ShloMosaic.Ideal) l r
      = BitVec.ofBool (decide ((show EReal from l.1) < (show EReal from r.1))) :=
    congrArg₂ (fun a b : EReal => BitVec.ofBool (decide (a < b))) (canon_eq l.1) (canon_eq r.1)
  rw [h]
  exact (by decide : ∀ b : Bool, (BitVec.ofBool b == 1#1) = b) _

/-- The position of the first column's sort. -/
def order (s : CI S4096x1000 .f32) : Fin 4096 → Fin 4096 :=
  sortedFrom fun a b : Fin 4096 => decide ((show EReal from s (ix2 a 0)) < (show EReal from s (ix2 b 0)))

/-- The sorted axis. -/
abbrev axis0 : Fin S4096x1000.rank := ⟨0, by decide⟩

/-- An index of the first column moved along it. -/
theorem along_eq (r k : Fin 4096) : Shape.Idx.along (s := S4096x1000) (ix2 r 0) axis0 (show Fin (S4096x1000.size axis0) from k) = ix2 k 0 := by
  funext a
  fin_cases a <;> rfl

/-- The second array of a sort of two along the first axis, at an index. -/
theorem sort2_apply {α β : Type} (cmp : α × β → α × β → BitVec 1) (x : S4096x1000.Idx → α) (y : S4096x1000.Idx → β) (j : S4096x1000.Idx) :
    (Host.sort2 S4096x1000 0 cmp x y).2 j = y (j.along axis0 (sortedFrom (fun k k' =>
      cmp (x (j.along axis0 k), y (j.along axis0 k)) (x (j.along axis0 k'), y (j.along axis0 k')) == 1#1) (j axis0))) := by
  unfold Host.sort2
  rw [dif_pos (show 0 < S4096x1000.rank by decide)]

/-- The count along the sorted axis at a moved index. -/
theorem iota_along (j : S4096x1000.Idx) (k : Fin (S4096x1000.size axis0)) :
    iotaInDim S4096x1000 32 axis0 (j.along axis0 k) = BitVec.ofNat 32 k.val :=
  congrArg (fun q : Fin (S4096x1000.size axis0) => BitVec.ofNat 32 q.val)
    (show j.along axis0 k axis0 = k from by unfold Shape.Idx.along; exact Function.update_self _ _ _)

/-- The sorted positions, as words. -/
theorem refIdx_apply (s : CI S4096x1000 .f32) (r : Fin 4096) : refIdx s (ix1 r) = BitVec.ofNat 32 (order s r).val := by
  unfold refIdx
  refine (shapeCast_apply _ _ _ (ix2 r 0) ?_).trans ?_
  · rw [Shape.rowMajor_val_one, Shape.rowMajor_val_two]
    show r.val * 1 + 0 = r.val
    omega
  refine (extractStridedSlice_apply _ _ _ _ (ix2 r 0) fun a => by fin_cases a <;> first | rfl | exact (Nat.zero_add _).symm).trans ?_
  refine (sort2_apply _ _ _ _).trans ((iota_along _ _).trans ?_)
  unfold order
  refine congrArg (fun f : Fin 4096 → Fin 4096 → Bool => BitVec.ofNat 32 (sortedFrom f r).val) (funext fun a => funext fun b => ?_)
  refine (comparator_eq _ _).trans ?_
  exact congrArg₂ (fun p q : S4096x1000.Idx => decide ((show EReal from s p) < (show EReal from s q))) (along_eq r a) (along_eq r b)

end Cert.Proof.Ref

end
-- ==== Proof.Ref.Permute.lean ====
/-
  The reference's gather and scatter by the sorted positions, element by element.
-/
module

public import proofs.«01_k».proof.Proof.Ref.Value
public import proofs.«01_k».proof.Proof.Pure.Index
public import Idealize.ShloMosaic.Lib.IdealHost
public import Idealize.ShloMosaic.Lib.Routing.OpsSet
public import Idealize.ShloMosaic.Lib.Pipeline.ValueKit

@[expose] public section

noncomputable section

namespace Cert.Proof.Ref

open Cert.ReferenceIdeal Cert.ReferenceIdeal.Gen
open Idealize.ShloMosaic

/-- The signed reading of a position's word. -/
theorem toInt_place (q : Fin 4096) : (BitVec.ofNat 32 q.val).toInt = (q.val : ℤ) := by
  have := q.isLt
  rw [BitVec.toInt_eq_toNat_cond, BitVec.toNat_ofNat]
  rw [Nat.mod_eq_of_lt (by omega), if_pos (by omega)]

/-- A position below 4096 is left as it is. -/
theorem wrap_word (q : Fin 4096) :
    Scalar.select (IntOp.cmpi .slt (BitVec.ofNat 32 q.val) 0#32) (IntOp.addi (BitVec.ofNat 32 q.val) 4096#32) (BitVec.ofNat 32 q.val)
      = BitVec.ofNat 32 q.val := by
  have h : IntOp.cmpi .slt (BitVec.ofNat 32 q.val) 0#32 = 0#1 := by
    show BitVec.ofBool (decide ((BitVec.ofNat 32 q.val).toInt < 0)) = 0#1
    rw [toInt_place, decide_eq_false (by omega)]
    rfl
  rw [h]
  rfl

/-- The gather's axes. -/
abbrev DG := gather_S4096x512x4x4_S4096x1_S4096x512x4x4_123_0_n_n_0_1_151244
/-- The scatter's axes. -/
abbrev DS := scatter_S4096x512x4x4_S4096x1_S4096x512x4x4_123_0_0_1

section
variable (k : CI S4096 .i32) (f : Fin 4096 → Fin 4096) (hk : ∀ r, k (ix1 r) = BitVec.ofNat 32 (f r).val)
include hk

/-- The column of positions at a row. -/
theorem refWrap_apply (r : Fin 4096) : refWrap k (ix2 r 0) = BitVec.ofNat 32 (f r).val := by
  unfold refWrap
  refine (broadcastInDim_apply _ _ _ _ (ix1 r) fun a => by fin_cases a <;> rfl).trans ?_
  refine Eq.trans (b := Scalar.select (IntOp.cmpi .slt (k (ix1 r)) 0#32) (IntOp.addi (k (ix1 r)) 4096#32) (k (ix1 r))) rfl ?_
  rw [hk r]
  exact wrap_word (f r)

/-- The gathered batch at an element: the batch's at the row's position. -/
theorem refGather_apply (x : CI S4096x512x4x4 .f32) (r : Fin 4096) (ch : Fin 512) (h w : Fin 4) :
    refGather x k (ix4 r ch h w) = x (ix4 (f r) ch h w) := by
  unfold refGather Host.gather
  refine congrArg x (funext fun a => Fin.ext ?_)
  show GatherDims.start _ _ _ a + GatherDims.batchCoord _ _ a + GatherDims.offCoord _ _ a = _
  rw [GatherDims.batchCoord_eq_zero _ _ _ List.not_mem_nil, Nat.add_zero]
  have hoff : ∀ a : Fin 4, a ≠ 0 → GatherDims.start DG (ix4 r ch h w) (refWrap k) a = 0 := fun a ha => by
    unfold GatherDims.start
    exact dif_neg fun hm => ha (List.mem_singleton.mp hm)
  match a with
  | ⟨0, _⟩ =>
    have h0 : GatherDims.start DG (ix4 r ch h w) (refWrap k) 0 = (f r).val := by
      unfold GatherDims.start
      rw [dif_pos (show (0 : Fin 4) ∈ DG.startIndexMap from List.mem_singleton.mpr rfl)]
      have hsi : DG.siIdx (ix4 r ch h w) ⟨List.idxOf (0 : Fin 4) DG.startIndexMap, List.idxOf_lt_length_iff.2 (List.mem_singleton.mpr rfl)⟩
          = ix2 r 0 := by
        funext b; refine Fin.ext ?_
        match b with
        | ⟨0, _⟩ => rfl
        | ⟨1, _⟩ => rfl
      rw [hsi, refWrap_apply k f hk r, toInt_place]
      show min (f r).val (4096 - 1) = (f r).val
      have := (f r).isLt
      omega
    refine (congrArg₂ (fun p q : ℕ => p + q) h0 (GatherDims.offCoord_eq_zero DG (ix4 r ch h w) (0 : Fin 4)
      (fun h => ((GatherDims.mem_sKept _ _).mp h).1 (List.mem_singleton.mpr rfl)))).trans ?_
    exact Nat.add_zero _
  | ⟨1, _⟩ => exact (congrArg (fun p : ℕ => p + GatherDims.offCoord DG (ix4 r ch h w) (1 : Fin 4)) (hoff 1 (by decide))).trans (Nat.zero_add _)
  | ⟨2, _⟩ => exact (congrArg (fun p : ℕ => p + GatherDims.offCoord DG (ix4 r ch h w) (2 : Fin 4)) (hoff 2 (by decide))).trans (Nat.zero_add _)
  | ⟨3, _⟩ => exact (congrArg (fun p : ℕ => p + GatherDims.offCoord DG (ix4 r ch h w) (3 : Fin 4)) (hoff 3 (by decide))).trans (Nat.zero_add _)

/-- Where an update lands: its own place in the row of its position. -/
theorem lands (r : Fin 4096) (ch : Fin 512) (h w : Fin 4) (i : S4096x512x4x4.Idx) :
    DS.resultIdx? (ix4 r ch h w) (refWrap k) = some i ↔ i = ix4 (f r) ch h w := by
  have h0 : DS.start (ix4 r ch h w) (refWrap k) (0 : Fin 4) + (DS.window (ix4 r ch h w) (0 : Fin 4) : ℤ) = ((f r).val : ℤ) := by
    have hs : DS.start (ix4 r ch h w) (refWrap k) (0 : Fin 4) = ((f r).val : ℤ) := by
      unfold ScatterDims.start
      rw [dif_pos (show (0 : Fin 4) ∈ DS.scatterDimsToOperandDims from List.mem_singleton.mpr rfl)]
      have hsi : DS.siIdx (ix4 r ch h w) ⟨List.idxOf (0 : Fin 4) DS.scatterDimsToOperandDims,
          List.idxOf_lt_length_iff.2 (List.mem_singleton.mpr rfl)⟩ = ix2 r 0 := by
        funext b; refine Fin.ext ?_
        match b with
        | ⟨0, _⟩ => rfl
        | ⟨1, _⟩ => rfl
      rw [hsi, refWrap_apply k f hk r, toInt_place]
    have hw : DS.window (ix4 r ch h w) (0 : Fin 4) = 0 := rfl
    rw [hs, hw]
    exact add_zero _
  have h1 : DS.start (ix4 r ch h w) (refWrap k) (1 : Fin 4) + (DS.window (ix4 r ch h w) (1 : Fin 4) : ℤ) = (ch.val : ℤ) := zero_add _
  have h2 : DS.start (ix4 r ch h w) (refWrap k) (2 : Fin 4) + (DS.window (ix4 r ch h w) (2 : Fin 4) : ℤ) = (h.val : ℤ) := zero_add _
  have h3 : DS.start (ix4 r ch h w) (refWrap k) (3 : Fin 4) + (DS.window (ix4 r ch h w) (3 : Fin 4) : ℤ) = (w.val : ℤ) := zero_add _
  rw [Routing.resultIdx?_eq_some]
  constructor
  · intro q
    funext a
    refine Fin.ext ?_
    match a with
    | ⟨0, _⟩ => exact Int.ofNat.inj ((q (0 : Fin 4)).symm.trans h0)
    | ⟨1, _⟩ => exact Int.ofNat.inj ((q (1 : Fin 4)).symm.trans h1)
    | ⟨2, _⟩ => exact Int.ofNat.inj ((q (2 : Fin 4)).symm.trans h2)
    | ⟨3, _⟩ => exact Int.ofNat.inj ((q (3 : Fin 4)).symm.trans h3)
  · rintro rfl a
    match a with
    | ⟨0, _⟩ => exact h0
    | ⟨1, _⟩ => exact h1
    | ⟨2, _⟩ => exact h2
    | ⟨3, _⟩ => exact h3

/-- The scattered batch at an element whose row is the position of row `r`, no two rows having one position: row `r`'s update. -/
theorem refScatter_apply (hf : Function.Injective f) (x u : CI S4096x512x4x4 .f32) (r : Fin 4096) (ch : Fin 512) (h w : Fin 4) :
    refScatter x k u (ix4 (f r) ch h w) = u (ix4 r ch h w) := by
  unfold refScatter
  refine Routing.scatter_set_hit DS x (refWrap k) u _ _ (fun j hj => ?_) (ix4 r ch h w) ((lands k f hk r ch h w _).mpr rfl)
  have hj' : ix4 (f r) ch h w = ix4 (f (j 0)) (j 1) (j 2) (j 3) :=
    (lands k f hk (j 0) (j 1) (j 2) (j 3) _).mp ((congrArg (fun q : S4096x512x4x4.Idx => DS.resultIdx? q (refWrap k)) (ix4_eta j)).trans hj)
  refine congrArg u ((ix4_eta j).symm.trans ?_)
  have e0 : f r = f (j 0) := congrFun hj' (0 : Fin 4)
  have e1 : ch = j 1 := congrFun hj' (1 : Fin 4)
  have e2 : h = j 2 := congrFun hj' (2 : Fin 4)
  have e3 : w = j 3 := congrFun hj' (3 : Fin 4)
  obtain rfl := hf e0
  subst e1 e2 e3
  rfl

end

end Cert.Proof.Ref

end
-- ==== Proof.Pure.Drop.lean ====
/-
  One element of the dropout: the draw in [0, 1) made of a word is below one half exactly when the word is not negative, and
  a quotient by one half is a double.
-/
module

public import Idealize.ShloMosaic.PureOps
public import Idealize.ShloMosaic.PureOps.Ideal
public import Idealize.ShloMosaic.PureOps.Ideal.Laws
public import Idealize.ShloMosaic.Lib.IdealHost
public import proofs.«01_k».proof.Proof.Pure.Words

@[expose] public section

noncomputable section

namespace Cert.Proof

open Idealize.ShloMosaic

/-- The word's top 23 bits as the fraction of a number in [1, 2). -/
def unitWord (b : W) : W := b >>> 9 ||| 0x3F800000#32

/-- The sign bit of the number in [1, 2) is clear. -/
theorem unit_sign (b : W) : (unitWord b).extractLsb' 31 1 = 0#1 := by
  apply BitVec.eq_of_getLsbD_eq
  intro i hi
  interval_cases i <;> simp [unitWord]

/-- The exponent of the number in [1, 2) is the bias. -/
theorem unit_exp (b : W) : (unitWord b).extractLsb' 23 8 = 127#8 := by
  apply BitVec.eq_of_getLsbD_eq
  intro i hi
  interval_cases i <;> simp [unitWord]

/-- The fraction of the number in [1, 2) is the word's top 23 bits. -/
theorem unit_frac (b : W) : (unitWord b).extractLsb' 0 23 = b.extractLsb' 9 23 := by
  apply BitVec.eq_of_getLsbD_eq
  intro i hi
  interval_cases i <;> simp [unitWord]

/-- The number in [1, 2) the word stands for. -/
theorem unit_value (b : W) : Idealize.ShloMosaic.Ideal.ofBits .f32 (unitWord b) = ((1 + (b.toNat / 512 : ℕ) / 8388608 : ℝ) : EReal) := by
  show Idealize.ShloMosaic.Ideal.ieee 8 23 (unitWord b) = _
  unfold Idealize.ShloMosaic.Ideal.ieee
  have hf : (b.extractLsb' 9 23).toNat = b.toNat / 512 := by
    rw [BitVec.extractLsb'_toNat, Nat.shiftRight_eq_div_pow]
    have := b.isLt
    omega
  rw [show 8 + 23 = 31 from rfl, unit_sign, unit_exp, unit_frac, hf]
  norm_num
  generalize (b.toNat / 512) = n
  norm_cast
  push_cast
  ring_nf

/-- One half. -/
theorem half_value : Idealize.ShloMosaic.Ideal.ofBits .f32 0x3F000000#32 = ((1 / 2 : ℝ) : EReal) := by
  simp [Idealize.ShloMosaic.Ideal.ofBits, Idealize.ShloMosaic.Ideal.ieee, -EReal.coe_mul]
  norm_num

/-- The draw in [0, 1). -/
def draw (b : W) : EReal :=
  max (Idealize.ShloMosaic.Ideal.ofBits .f32 0x00000000#32)
    ((Idealize.ShloMosaic.Ideal.ofBits .f32 (unitWord b) - Idealize.ShloMosaic.Ideal.ofBits .f32 0x3F800000#32)
      * (Idealize.ShloMosaic.Ideal.ofBits .f32 0x3F800000#32 - Idealize.ShloMosaic.Ideal.ofBits .f32 0x00000000#32)
      + Idealize.ShloMosaic.Ideal.ofBits .f32 0x00000000#32)

/-- The draw is the word's top 23 bits over 2^23. -/
theorem draw_value (b : W) : draw b = (((b.toNat / 512 : ℕ) / 8388608 : ℝ) : EReal) := by
  unfold draw
  rw [unit_value, Idealize.ShloMosaic.Ideal.ofBits_one_f32, Idealize.ShloMosaic.Ideal.ofBits_zero_f32]
  generalize (b.toNat / 512) = n
  rw [show (1 : EReal) = ((1 : ℝ) : EReal) from rfl, show (0 : EReal) = ((0 : ℝ) : EReal) from rfl, ← EReal.coe_sub, ← EReal.coe_sub,
    ← EReal.coe_mul, ← EReal.coe_add]
  rw [max_eq_right (by rw [EReal.coe_le_coe_iff]; ring_nf; positivity)]
  congr 1
  ring

/-- The draw is below one half exactly when the word is not negative. -/
theorem draw_lt_half (b : W) :
    Idealize.ShloMosaic.Ideal.cmp .olt (draw b) (Idealize.ShloMosaic.Ideal.ofBits .f32 0x3F000000#32) = IntOp.cmpi .sge b 0#32 := by
  rw [draw_value, half_value]
  show BitVec.ofBool (decide _) = BitVec.ofBool _
  congr 1
  have h : (((b.toNat / 512 : ℕ) / 8388608 : ℝ) < 1 / 2) ↔ b.toNat / 512 < 4194304 := by
    rw [div_lt_iff₀ (by norm_num)]
    norm_num
  have hb := b.isLt
  have hi : b.toInt = if 2 * b.toNat < 2 ^ 32 then (b.toNat : ℤ) else (b.toNat : ℤ) - 2 ^ 32 := by
    rw [BitVec.toInt_eq_toNat_cond]; split <;> simp
  show decide _ = decide (0 ≤ b.toInt)
  refine decide_eq_decide.mpr ((EReal.coe_lt_coe_iff.trans h).trans ?_)
  rw [hi]
  split <;> omega

/-- A quotient by one half is a double. -/
theorem div_half (v : EReal) : Idealize.ShloMosaic.Ideal.div v (Idealize.ShloMosaic.Ideal.ofBits .f32 0x3F000000#32) = v + v := by
  rw [half_value, Idealize.ShloMosaic.Ideal.div_coe (by norm_num)]
  induction v using EReal.rec with
  | bot => rw [EReal.bot_mul_coe_of_pos (by norm_num)]; rfl
  | top => rw [EReal.top_mul_coe_of_pos (by norm_num)]; rfl
  | coe r =>
    rw [← EReal.coe_mul, ← EReal.coe_add]
    congr 1
    ring

end Cert.Proof

end
-- ==== Proof.Mask.lean ====
/-
  The reference's dropout mask and the dropped array, element by element.
-/
module

public import proofs.«01_k».proof.Proof.Ref.Read
public import proofs.«01_k».proof.Proof.Pure.Drop
public import Idealize.ShloMosaic.Lib.ValueIdxCore

@[expose] public section

noncomputable section

namespace Cert.Proof.Ref

open Cert.ReferenceIdeal Cert.ReferenceIdeal.Gen
open Idealize.ShloMosaic

/-- The shifted word with the exponent's bits set, at an element. -/
theorem unit_apply (b : CI S4096x512x4x4 .i32) (i : S4096x512x4x4.Idx) :
    ori (Host.shrui b (bc (constantI S_ 32 9#32))) (bc (constantI S_ 32 1065353216#32)) i = unitWord (b i) := rfl

/-- The mask between any bounds, at an element. -/
theorem refMask_apply (lo hi half : EReal) (b : CI S4096x512x4x4 .i32) (i : S4096x512x4x4.Idx) :
    refMask (fun _ => lo) (fun _ => hi) (fun _ => half) b i
      = Idealize.ShloMosaic.Ideal.cmp .olt (max lo ((Idealize.ShloMosaic.Ideal.ofBits .f32 (unitWord (b i))
          - Idealize.ShloMosaic.Ideal.ofBits .f32 0x3F800000#32) * (hi - lo) + lo)) half := by
  unfold refMask
  rw [show ori (Host.shrui b (bc (constantI S_ 32 9#32))) (bc (constantI S_ 32 1065353216#32)) = fun i => unitWord (b i) from
    funext fun i => unit_apply b i]
  rfl

/-- A scalar array made of a constant, then spread. -/
theorem spread_const (w : BitVec 32) :
    (broadcastInDim S1x1x1x1 ![] bcast_S_S1x1x1x1 (constant (F := Idealize.ShloMosaic.Ideal) S_ .f32 w) : CI S1x1x1x1 .f32)
      = fun _ => Idealize.ShloMosaic.Ideal.ofBits .f32 w := rfl

/-- A scalar array made of a constant. -/
theorem scalar_const (w : BitVec 32) :
    (constant (F := Idealize.ShloMosaic.Ideal) S_ .f32 w : CI S_ .f32) = fun _ => Idealize.ShloMosaic.Ideal.ofBits .f32 w := rfl

/-- The mask made of any words, between zero and one and against one half: the words' signs. -/
theorem mask_sign (b : CI S4096x512x4x4 .i32) (i : S4096x512x4x4.Idx) :
    refMask (broadcastInDim S1x1x1x1 ![] bcast_S_S1x1x1x1 (constant (F := Idealize.ShloMosaic.Ideal) S_ .f32 0x00000000#32))
      (broadcastInDim S1x1x1x1 ![] bcast_S_S1x1x1x1 (constant (F := Idealize.ShloMosaic.Ideal) S_ .f32 0x3F800000#32))
      (constant (F := Idealize.ShloMosaic.Ideal) S_ .f32 0x3F000000#32) b i = IntOp.cmpi .sge (b i) 0#32 := by
  rw [spread_const, spread_const, scalar_const, refMask_apply]
  exact draw_lt_half (b i)

/-- The mask at an element is the sign of its word. -/
theorem refKeep_apply (i : S4096x512x4x4.Idx) : refKeep i = IntOp.cmpi .sge (refBits i) 0#32 :=
  mask_sign refBits i

/-- The dropped array at an element, under any mask. -/
theorem refDrop_apply (keep : CI S4096x512x4x4 .i1) (g : CI S4096x512x4x4 .f32) (i : S4096x512x4x4.Idx) :
    refDrop keep g i = Scalar.select (keep i) (Idealize.ShloMosaic.Ideal.div (g i) (Idealize.ShloMosaic.Ideal.ofBits .f32 0x3F000000#32))
      (Idealize.ShloMosaic.Ideal.ofBits .f32 0x00000000#32) := rfl

end Cert.Proof.Ref

end
-- ==== Proof.Scores.lean ====
/-
  The two programs score the batch alike: the probabilities of the first class are the same function of the arguments.
-/
module

public import proofs.«01_k».proof.Proof.Kern.Host
public import proofs.«01_k».proof.Proof.Ref.Value
public import proofs.«01_k».proof.Proof.Pure.Index
public import Idealize.ShloMosaic.Lib.IdealHost
public import Idealize.ShloMosaic.PureOps.Ideal.Laws
public import Idealize.ShloMosaic.Lib.Pipeline.ValueKit

@[expose] public section

noncomputable section

namespace Cert.Proof

open Idealize.ShloMosaic
open Cert.Proof.Kern (KI kerMean kerLogits kerMax kerExp kerSoft kerProb kerRow)
open Cert.Proof.Ref (CI refMean refLogits refMax refExp refSoft refProb)

/-- The kernel's product's axes. -/
abbrev DK := Cert.KernelIdeal.dot_S1000x512_S4096x512_S1000x4096_1_1_0_0_n_n
/-- The reference's product's axes. -/
abbrev DR := Cert.ReferenceIdeal.dot_S4096x512_S512x1000_S4096x1000_1_0_0_1_n_n

/-- The kernel's product at a class and a batch element. -/
theorem dotK (w : KI Cert.KernelIdeal.S1000x512 .f32) (a : KI Cert.KernelIdeal.S4096x512 .f32) (c : Fin 1000) (n : Fin 4096) :
    Host.dotGeneral (F := Idealize.ShloMosaic.Ideal) (φ₁ := .f32) (φ₂ := .f32) DK none w a (ix2 c n)
      = ∑ k : Fin 512, (w (ix2 c k) * a (ix2 n k) : EReal) := by
  refine (Idealize.ShloMosaic.Ideal.dotGeneral_apply _ _ _ _ _ _).trans ?_
  refine (Equiv.sum_comp (ValueIdx.contrEquiv1 DK 512 rfl rfl).symm _).symm.trans (Finset.sum_congr rfl fun k _ => ?_)
  have hk := ValueIdx.contrEquiv1_symm_val DK 512 rfl rfl k
  congr 1
  · refine congrArg w (funext fun a => Fin.ext ?_)
    match a with
    | ⟨0, _⟩ => rfl
    | ⟨1, _⟩ => exact hk
  · refine congrArg a (funext fun a => Fin.ext ?_)
    match a with
    | ⟨0, _⟩ => rfl
    | ⟨1, _⟩ => exact hk

/-- The reference's product at a batch element and a class. -/
theorem dotR (a : CI Cert.ReferenceIdeal.S4096x512 .f32) (v : CI Cert.ReferenceIdeal.S512x1000 .f32) (n : Fin 4096) (c : Fin 1000) :
    Host.dotGeneral (F := Idealize.ShloMosaic.Ideal) (φ₁ := .f32) (φ₂ := .f32) DR none a v (ix2 n c)
      = ∑ k : Fin 512, (a (ix2 n k) * v (ix2 k c) : EReal) := by
  refine (Idealize.ShloMosaic.Ideal.dotGeneral_apply _ _ _ _ _ _).trans ?_
  refine (Equiv.sum_comp (ValueIdx.contrEquiv1 DR 512 rfl rfl).symm _).symm.trans (Finset.sum_congr rfl fun k _ => ?_)
  have hk := ValueIdx.contrEquiv1_symm_val DR 512 rfl rfl k
  congr 1
  · refine congrArg a (funext fun a => Fin.ext ?_)
    match a with
    | ⟨0, _⟩ => rfl
    | ⟨1, _⟩ => exact hk
  · refine congrArg v (funext fun a => Fin.ext ?_)
    match a with
    | ⟨0, _⟩ => exact hk
    | ⟨1, _⟩ => rfl

/-- The means are the same. -/
theorem mean_eq (x : KI Cert.KernelIdeal.S4096x512x4x4 .f32) : kerMean x = refMean x := rfl

/-- The logits are the same, the one array the other's transpose. -/
theorem logits_eq (x : KI Cert.KernelIdeal.S4096x512x4x4 .f32) (w : KI Cert.KernelIdeal.S1000x512 .f32) (b : KI Cert.KernelIdeal.S1000 .f32)
    (n : Fin 4096) (c : Fin 1000) : kerLogits x w b (ix2 c n) = refLogits x w b (ix2 n c) := by
  unfold kerLogits refLogits
  refine (ValueIdx.addf_apply _ _ _).trans (Eq.trans ?_ (ValueIdx.addf_apply _ _ _).symm)
  refine congrArg₂ (fun p q : EReal => p + q) ?_ ?_
  · refine (dotK _ _ c n).trans (Eq.trans ?_ (dotR _ _ n c).symm)
    refine Finset.sum_congr rfl fun k _ => ?_
    rw [mul_comm, mean_eq]
    refine congrArg _ (Eq.symm ?_)
    exact transpose_apply _ _ _ _ (ix2 c k) fun b => by fin_cases b <;> rfl
  · refine (broadcastInDim_apply _ _ _ _ (ix2 c 0) fun a => by fin_cases a <;> rfl).trans ?_
    refine (broadcastInDim_apply _ _ _ _ (ix1 c) fun a => by fin_cases a <;> rfl).trans (Eq.symm ?_)
    refine (broadcastInDim_apply _ _ _ _ (ix2 0 c) fun a => by fin_cases a <;> rfl).trans ?_
    exact broadcastInDim_apply _ _ _ _ (ix1 c) fun a => by fin_cases a <;> rfl

/-- The kernel's array of logits reduces along its classes to one entry per batch element. -/
theorem redK : Cert.KernelIdeal.S1000x4096.Reduces [0] Cert.KernelIdeal.S4096 := by decide
/-- The reference's array of logits reduces along its classes to one entry per batch element. -/
theorem redR : Cert.ReferenceIdeal.S4096x1000.Reduces [1] Cert.ReferenceIdeal.S4096 := by decide

/-- The kernel's reduced axis put back, -/
theorem liftK (n : Fin 4096) (c : Fin 1000) : redK.lift (ix1 n) c = ix2 c n := by
  funext a
  refine Fin.ext ((Shape.Reduces.lift_val _ _ _ _).trans ?_)
  fin_cases a <;> rfl

/-- and the reference's. -/
theorem liftR (n : Fin 4096) (c : Fin 1000) : redR.lift (ix1 n) c = ix2 n c := by
  funext a
  refine Fin.ext ((Shape.Reduces.lift_val _ _ _ _).trans ?_)
  fin_cases a <;> rfl

/-- The row sums of the reference's array. -/
def refSum (e : CI Cert.ReferenceIdeal.S4096x1000 .f32) : CI Cert.ReferenceIdeal.S4096 .f32 :=
  Host.reduceAdd (F := Idealize.ShloMosaic.Ideal) (φ := .f32) e (constant Cert.ReferenceIdeal.S_ .f32 0x00000000#32) Cert.ReferenceIdeal.Gen.reducesTo_S4096x1000_S4096_d1 Cert.ReferenceIdeal.Gen.h_S_

section
variable (l : KI Cert.KernelIdeal.S1000x4096 .f32) (l' : CI Cert.ReferenceIdeal.S4096x1000 .f32)
  (hl : ∀ (n : Fin 4096) (c : Fin 1000), l (ix2 c n) = l' (ix2 n c))
include hl

/-- Arrays that are each other's transpose have the same largest entries, -/
theorem max_eq (n : Fin 4096) : kerMax l (ix1 n) = refMax l' (ix1 n) := by
  unfold kerMax refMax
  refine (ValueIdx.maximumf_apply _ _ _).trans (Eq.trans ?_ (ValueIdx.maximumf_apply _ _ _).symm)
  refine congrArg₂ (fun p q : EReal => max p q) rfl ?_
  refine (Host.reduce_eq_fold_single (α := Idealize.ShloMosaic.Ideal .f32) _ _ _ _ redK _ _).trans
    (Eq.trans ?_ (Host.reduce_eq_fold_single (α := Idealize.ShloMosaic.Ideal .f32) _ _ _ _ redR _ _).symm)
  refine congrArg (fun f : Fin 1000 → Idealize.ShloMosaic.Ideal .f32 => Finset.fold FloatOps.maximumf _ f Finset.univ) (funext fun c => ?_)
  exact (congrArg l (liftK n c)).trans ((hl n c).trans (congrArg l' (liftR n c)).symm)

/-- the same exponentials, -/
theorem exp_eq (n : Fin 4096) (c : Fin 1000) : kerExp l (ix2 c n) = refExp l' (ix2 n c) := by
  unfold kerExp refExp
  refine congrArg (fun z : EReal => FloatOps.hostUnary (F := Idealize.ShloMosaic.Ideal) (φ := .f32) .exp z) ?_
  refine (ValueIdx.subf_apply _ _ _).trans (Eq.trans ?_ (ValueIdx.subf_apply _ _ _).symm)
  refine congrArg₂ (fun p q : EReal => p - q) (hl n c) ?_
  refine (broadcastInDim_apply _ _ _ _ (ix2 0 n) fun a => by fin_cases a <;> rfl).trans ?_
  refine (broadcastInDim_apply _ _ _ _ (ix1 n) fun a => by fin_cases a <;> rfl).trans ((max_eq l l' hl n).trans (Eq.symm ?_))
  refine (broadcastInDim_apply _ _ _ _ (ix2 n 0) fun a => by fin_cases a <;> rfl).trans ?_
  exact broadcastInDim_apply _ _ _ _ (ix1 n) fun a => by fin_cases a <;> rfl

/-- and the same quotients by the sums. -/
theorem soft_eq (n : Fin 4096) (c : Fin 1000) : kerSoft l (ix2 c n) = refSoft l' (ix2 n c) := by
  unfold kerSoft refSoft
  refine (ValueIdx.hostDivf_apply _ _ _).trans (Eq.trans ?_ (ValueIdx.hostDivf_apply _ _ _).symm)
  refine congrArg₂ Idealize.ShloMosaic.Ideal.div (hl n c) ?_
  refine (broadcastInDim_apply _ _ _ _ (ix2 0 n) fun a => by fin_cases a <;> rfl).trans ?_
  refine (broadcastInDim_apply _ _ _ _ (ix1 n) fun a => by fin_cases a <;> rfl).trans (Eq.trans (b := refSum l' (ix1 n)) ?_ (Eq.symm ?_))
  · refine (ValueIdx.hostReduceAdd_apply _ _ _ _ _).trans ((Idealize.ShloMosaic.Ideal.hostReduceAdd_single _ redK _ _ _).trans ?_)
    refine Eq.trans ?_ ((ValueIdx.hostReduceAdd_apply _ _ _ _ _).trans (Idealize.ShloMosaic.Ideal.hostReduceAdd_single _ redR _ _ _)).symm
    refine congrArg₂ (fun p q : EReal => p + q) rfl (Finset.sum_congr rfl fun c _ => ?_)
    exact (congrArg l (liftK n c)).trans ((hl n c).trans (congrArg l' (liftR n c)).symm)
  refine (broadcastInDim_apply _ _ _ _ (ix2 n 0) fun a => by fin_cases a <;> rfl).trans ?_
  exact broadcastInDim_apply _ _ _ _ (ix1 n) fun a => by fin_cases a <;> rfl

end

/-- The kernel's score of a batch element is the reference's probability of the first class. -/
theorem score_eq (x : KI Cert.KernelIdeal.S4096x512x4x4 .f32) (w : KI Cert.KernelIdeal.S1000x512 .f32) (b : KI Cert.KernelIdeal.S1000 .f32)
    (n : Fin 4096) : kerRow (kerProb x w b) (ix1 n) = refProb x w b (ix2 n 0) := by
  unfold kerRow
  refine (shapeCast_apply _ _ _ (ix2 0 n) ?_).trans ?_
  · rw [Shape.rowMajor_val_one, Shape.rowMajor_val_two]
    show 0 * 4096 + n.val = n.val
    omega
  refine (extractStridedSlice_apply _ _ _ _ (ix2 0 n) fun a => by fin_cases a <;> first | rfl | exact (Nat.zero_add _).symm).trans ?_
  exact soft_eq _ _ (fun n c => exp_eq _ _ (fun n c => logits_eq x w b n c) n c) n 0

end Cert.Proof

end
-- ==== Proof.Join.lean ====
/-
  The two programs' results are equal: the reference's result at an element is the element doubled or zero by the word drawn
  at the row's rank, as the kernel's is.
-/
module

public import proofs.«01_k».proof.Proof.Kern.Result
public import proofs.«01_k».proof.Proof.Ref.Read
public import proofs.«01_k».proof.Proof.Ref.Order
public import proofs.«01_k».proof.Proof.Ref.Permute
public import proofs.«01_k».proof.Proof.Mask
public import proofs.«01_k».proof.Proof.Scores

@[expose] public section

noncomputable section

namespace Cert.Proof

open Cert.ReferenceIdeal Cert.ReferenceIdeal.Gen
open Idealize.ShloMosaic
open Cert.Proof.Ref Cert.Proof.Kern

/-- The dropped element. -/
theorem drop_eq (g : CI S4096x512x4x4 .f32) (i : S4096x512x4x4.Idx) :
    refDrop refKeep g i = keepDbl (F := Idealize.ShloMosaic.Ideal) (refBits i) (g i) := by
  refine (refDrop_apply _ _ _).trans ?_
  rw [refKeep_apply, div_half]
  generalize refBits i = b
  rfl

/-- The reference's result at an element, the rows ranked by the key it sorts them by. -/
theorem refOut_apply (x : CI S4096x512x4x4 .f32) (w : CI S1000x512 .f32) (b : CI S1000 .f32) (n : Fin 4096) (ch : Fin 512) (h v : Fin 4) :
    refOut x w b (ix4 n ch h v)
      = keepDbl (F := Idealize.ShloMosaic.Ideal) (drawW (BitVec.ofNat 32
          (8192 * keyRank (fun j : Fin 4096 => -(show EReal from refProb x w b (ix2 j 0))) n + (16 * ch.val + 4 * h.val + v.val))))
          (x (ix4 n ch h v)) := by
  set key : Fin 4096 → EReal := fun j => -(show EReal from refProb x w b (ix2 j 0)) with hkey
  set s := Host.negf (F := Idealize.ShloMosaic.Ideal) (φ := .f32) (refProb x w b) with hs
  have ho : order s = sortedFrom fun a b : Fin 4096 => decide (key a < key b) := rfl
  have hr : order s (rankPos key n) = n := by rw [ho]; exact sortedFrom_rankPos key n
  have hinj : Function.Injective (order s) := by
    rw [ho]
    exact Function.LeftInverse.injective (rankPos_sortedFrom key)
  have hk := refIdx_apply s
  unfold refOut
  refine Eq.trans (b := refScatter x (refIdx s) (refDrop refKeep (refGather x (refIdx s))) (ix4 (order s (rankPos key n)) ch h v)) ?_ ?_
  · rw [hr]
  refine (refScatter_apply (refIdx s) (order s) hk hinj _ _ (rankPos key n) ch h v).trans ((drop_eq _ _).trans ?_)
  rw [refGather_apply (refIdx s) (order s) hk, hr]
  refine congrArg (fun z : ℕ => keepDbl (F := Idealize.ShloMosaic.Ideal) (drawW (BitVec.ofNat 32 z)) (x (ix4 n ch h v))) ?_
  show 8192 * keyRank key n + 16 * ch.val + 4 * h.val + v.val = 8192 * keyRank key n + (16 * ch.val + 4 * h.val + v.val)
  omega

/-- The kernel's result array is the reference's function of the arguments. -/
theorem kernel_eq (m : (ℓ : Loc Cert.KernelIdeal.nD Cert.KernelIdeal.τ Cert.KernelIdeal.sig) → Buf (Elt Idealize.ShloMosaic.Ideal) ℓ)
    (ρ : Dev Cert.KernelIdeal.nD → PrngReg) (c : Dev Cert.KernelIdeal.nD) :
    Cert.KernelIdeal.Gen.W5 m ρ c (Proc.devRef .tc Cert.KernelIdeal.main_v29)
      = refOut (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  funext (i : S4096x512x4x4.Idx)
  rw [← ix4_eta i]
  refine (result m ρ c (i 0) (i 1) (i 2) (i 3)).trans (Eq.trans ?_ (refOut_apply _ _ _ (i 0) (i 1) (i 2) (i 3)).symm)
  refine congrArg (fun key : Fin 4096 → EReal => keepDbl (F := Idealize.ShloMosaic.Ideal)
    (drawW (BitVec.ofNat 32 (8192 * keyRank key (i 0) + (16 * (i 1).val + 4 * (i 2).val + (i 3).val)))) _) (funext fun j => ?_)
  exact congrArg (fun z : EReal => -z) (score_eq _ _ _ j)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Ref.Read
public import proofs.«01_k».proof.Proof.Kern.Run
public import proofs.«01_k».proof.Proof.Join
public import Idealize.ShloMosaic.Adequacy
public import Idealize.ShloMosaic.Init

@[expose] public section

noncomputable section

namespace Cert.Proof

open Idealize.ShloMosaic Idealize.SL.Sem Cert.Kernel

/-- The reference ends with its arguments as launched and every counter at zero. -/
theorem reference_frame : Cert.quiescent_ReferenceIdeal := by
  intro m ρ _
  exact (θ_run Cert.ReferenceIdeal.defs _ _).mono
    (fun r h => ⟨fun c => (h c).2, sem_eq_zero_of_no_sems (by decide) r.2⟩) (Cert.Proof.Ref.run_main m ρ)

/-- From memories that agree on the arguments the two programs end with equal results. -/
theorem algebraic : Cert.algebraic_KernelIdeal_ReferenceIdeal := by
  intro m g m' g' _ hargs
  refine ⟨fun c => Cert.KernelIdeal.Gen.W5 m g c (Proc.devRef .tc Cert.KernelIdeal.main_v29), Cert.Proof.Kern.run_result m g, ?_⟩
  refine (θ_run Cert.ReferenceIdeal.defs _ _).mono (fun r h c => ⟨(h c).1.trans ?_, (h c).2⟩) (Cert.Proof.Ref.run_main m' g')
  refine Eq.trans ?_ (kernel_eq m g c).symm
  rw [(hargs c).1, (hargs c).2.1, (hargs c).2.2]

/-- The certificate's claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, algebraic⟩

end Cert.Proof

end
